-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S3x1024x1024 : Shape := ⟨3, ![3, 1024, 1024]⟩
abbrev S3x1024x2048 : Shape := ⟨3, ![3, 1024, 2048]⟩
abbrev S3 : Shape := ⟨1, ![3]⟩
abbrev S3x2 : Shape := ⟨2, ![3, 2]⟩
abbrev S_ : Shape := ⟨0, ![]⟩
abbrev S1024x1024 : Shape := ⟨2, ![1024, 1024]⟩
abbrev S1x1024x1024 : Shape := ⟨3, ![1, 1024, 1024]⟩
abbrev S1x1 : Shape := ⟨2, ![1, 1]⟩

abbrev nBuf : Space → Nat
  | .hbm => 5
  | .vmem => 7
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x2048, .fp8e5m2⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .fp8e4m3⟩
  | .local _ .vmem, ⟨1, _⟩ => ⟨S1024x2048, .fp8e5m2⟩
  | .local _ .vmem, ⟨2, _⟩ => ⟨S1024x2048, .f32⟩
  | .local _ .vmem, ⟨3, _⟩ => ⟨S3x1024x1024, .fp8e4m3⟩
  | .local _ .vmem, ⟨4, _⟩ => ⟨S1024x2048, .fp8e5m2⟩
  | .local _ .vmem, ⟨5, _⟩ => ⟨S3x1024x1024, .fp8e4m3⟩
  | .local _ .vmem, ⟨6, _⟩ => ⟨S3x1024x2048, .fp8e5m2⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  let v19 : Index := Scalar.indexCast v18
  let c0 : Index := 0#32
  ![v19.toNat, 0]
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v25 : BitVec 32 := Scalar.addi v2 c1_i32_18
  let c4_i32_19 : BitVec 32 := 4#32
  let v26 : BitVec 32 := Scalar.remsi v25 c4_i32_19
  let c1_i32_24 : BitVec 32 := 1#32
  let v27 : BitVec 32 := Scalar.muli v26 c1_i32_24
  let v28 : BitVec 32 := Scalar.addi c0_i32_25 v27
  v28.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_36 : BitVec 32 := 3#32
  let v46 : BitVec 32 := Scalar.addi v2 c3_i32_36
  let c4_i32_37 : BitVec 32 := 4#32
  let v47 : BitVec 32 := Scalar.remsi v46 c4_i32_37
  let c1_i32_42 : BitVec 32 := 1#32
  let v48 : BitVec 32 := Scalar.muli v47 c1_i32_42
  let v49 : BitVec 32 := Scalar.addi c0_i32_43 v48
  v49.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_52 : BitVec 32 := 1#32
  let v63 : BitVec 32 := Scalar.addi v2 c1_i32_52
  let c4_i32_53 : BitVec 32 := 4#32
  let v64 : BitVec 32 := Scalar.remsi v63 c4_i32_53
  let c1_i32_59 : BitVec 32 := 1#32
  let v65 : BitVec 32 := Scalar.muli v64 c1_i32_59
  let v66 : BitVec 32 := Scalar.addi c0_i32_60 v65
  v66.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_65 : BitVec 32 := 3#32
  let v74 : BitVec 32 := Scalar.addi v2 c3_i32_65
  let c4_i32_66 : BitVec 32 := 4#32
  let v75 : BitVec 32 := Scalar.remsi v74 c4_i32_66
  let c1_i32_72 : BitVec 32 := 1#32
  let v76 : BitVec 32 := Scalar.muli v75 c1_i32_72
  let v77 : BitVec 32 := Scalar.addi c0_i32_73 v76
  v77.toNat
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_81 : BitVec 32 := 1#32
  let v90 : BitVec 32 := Scalar.addi v2 c1_i32_81
  let c4_i32_82 : BitVec 32 := 4#32
  let v91 : BitVec 32 := Scalar.remsi v90 c4_i32_82
  let c1_i32_88 : BitVec 32 := 1#32
  let v92 : BitVec 32 := Scalar.muli v91 c1_i32_88
  let v93 : BitVec 32 := Scalar.addi c0_i32_89 v92
  v93.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_94 : BitVec 32 := 3#32
  let v101 : BitVec 32 := Scalar.addi v2 c3_i32_94
  let c4_i32_95 : BitVec 32 := 4#32
  let v102 : BitVec 32 := Scalar.remsi v101 c4_i32_95
  let c1_i32_101 : BitVec 32 := 1#32
  let v103 : BitVec 32 := Scalar.muli v102 c1_i32_101
  let v104 : BitVec 32 := Scalar.addi c0_i32_102 v103
  v104.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_113 : BitVec 32 := 1024#32
  let v121 : BitVec 32 := Scalar.muli v2 c1024_i32_113
  let v122 : Index := Scalar.indexCast v121
  let c0_114 : Index := 0#32
  ![v122.toNat, 0]
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_177 : BitVec 32 := 2#32
  let v163 : BitVec 32 := Scalar.addi v2 c2_i32_177
  let c4_i32_178 : BitVec 32 := 4#32
  let v164 : BitVec 32 := Scalar.remsi v163 c4_i32_178
  let c1_i32_183 : BitVec 32 := 1#32
  let v165 : BitVec 32 := Scalar.muli v164 c1_i32_183
  let v166 : BitVec 32 := Scalar.addi c0_i32_184 v165
  v166.toNat
def k0_dev11 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_189 : BitVec 32 := 2#32
  let v175 : BitVec 32 := Scalar.addi v2 c2_i32_189
  let c4_i32_190 : BitVec 32 := 4#32
  let v176 : BitVec 32 := Scalar.remsi v175 c4_i32_190
  let c1_i32_196 : BitVec 32 := 1#32
  let v177 : BitVec 32 := Scalar.muli v176 c1_i32_196
  let v178 : BitVec 32 := Scalar.addi c0_i32_197 v177
  v178.toNat
def k0_dev12 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_202 : BitVec 32 := 2#32
  let v186 : BitVec 32 := Scalar.addi v2 c2_i32_202
  let c4_i32_203 : BitVec 32 := 4#32
  let v187 : BitVec 32 := Scalar.remsi v186 c4_i32_203
  let c1_i32_209 : BitVec 32 := 1#32
  let v188 : BitVec 32 := Scalar.muli v187 c1_i32_209
  let v189 : BitVec 32 := Scalar.addi c0_i32_210 v188
  v189.toNat
abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Pieces.lean ====
/-
# The kernel's ring, its buffers' pieces and its semaphores

Four devices. Each sends to each of the other three one 1024 × 1024 block of `x` and both column halves of its rows
of `w`, so a device's two receive buffers have three slots, one per sender. This file names the peers, the pieces
of the buffers the transfers move, the semaphores they complete on, and the values that travel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The peers -/

set_option backward.proofsInPublic true in
/-- Device `c`'s `j`-th peer: the device `j + 1` places after it. -/
def peer (c : Dev nD) (j : Fin 3) : Dev nD := ⟨(c.val + j.val + 1) % 4, Nat.mod_lt _ (by decide)⟩

/-- Which of its peers' peers a device is: `peer (peer c j) (rev j) = c`. -/
def rev (j : Fin 3) : Fin 3 := ![2, 1, 0] j

theorem rev_rev (j : Fin 3) : rev (rev j) = j := by revert j; decide
theorem peer_rev (c : Dev nD) (j : Fin 3) : peer (peer c j) (rev j) = c := by revert c j; decide

/-- Crossing from the sender's end of a connection to the receiver's: an involution of (device, peer number). -/
def cross : Dev nD × Fin 3 ≃ Dev nD × Fin 3 where
  toFun p := (peer p.1 p.2, rev p.2)
  invFun p := (peer p.1 p.2, rev p.2)
  left_inv := fun ⟨c, j⟩ => Prod.ext (peer_rev c j) (rev_rev j)
  right_inv := fun ⟨c, j⟩ => Prod.ext (peer_rev c j) (rev_rev j)

/-! ## The buffers and their pieces -/

abbrev xM : Memref sig .tc .vmem S4096x1024 .fp8e4m3 := Memref.whole cc0_stg0_0
abbrev wM : Memref sig .tc .vmem S1024x2048 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S1024x2048 .f32 := Memref.whole cc0_stg4_0
abbrev txxM : Memref sig .tc .vmem S3x1024x1024 .fp8e4m3 := Memref.whole cc0_scratch0
abbrev txwM : Memref sig .tc .vmem S1024x2048 .fp8e5m2 := Memref.whole cc0_scratch1
abbrev rxxM : Memref sig .tc .vmem S3x1024x1024 .fp8e4m3 := Memref.whole cc0_scratch2
abbrev rxwM : Memref sig .tc .vmem S3x1024x2048 .fp8e5m2 := Memref.whole cc0_scratch3

/-- The left column of half `h`: 0 or 1024. -/
abbrev col (h : Fin 2) : ℕ := ![0, 1024] h

theorem inb_slot (s : Fin 3) : ∀ a, (![s.val, 0, 0] : Fin 3 → Nat) a + S1x1024x1024.size a ≤ S3x1024x1024.size a := by
  revert s; decide
theorem inb_slotHalf (s : Fin 3) (h : Fin 2) : ∀ a, (![s.val, 0, col h] : Fin 3 → Nat) a + S1x1024x1024.size a ≤ S3x1024x2048.size a := by
  revert s h; decide
theorem inb_half (h : Fin 2) : ∀ a, (![0, col h] : Fin 2 → Nat) a + S1024x1024.size a ≤ S1024x2048.size a := by
  revert h; decide

/-- Slot `s` of a three-slot buffer. -/
abbrev slotR (s : Fin 3) : Rect S3x1024x1024 := Rect.unit (s := S3x1024x1024) ![s.val, 0, 0] S1x1024x1024.size (inb_slot s)
/-- Column half `h` of slot `s` of the three-slot `w` buffer. -/
abbrev slotHalfR (s : Fin 3) (h : Fin 2) : Rect S3x1024x2048 := Rect.unit (s := S3x1024x2048) ![s.val, 0, col h] S1x1024x1024.size (inb_slotHalf s h)
/-- Column half `h` of a 1024 × 2048 buffer. -/
abbrev halfR (h : Fin 2) : Rect S1024x2048 := Rect.unit (s := S1024x2048) ![0, col h] S1024x1024.size (inb_half h)

abbrev txx (j : Fin 3) : Memref sig .tc .vmem S1024x1024 .fp8e4m3 :=
  (txxM.slice (slotR j) (fun _ => rfl)).squeeze S1024x1024 squeezes_S1x1024x1024_S1024x1024
abbrev txw (h : Fin 2) : Memref sig .tc .vmem S1024x1024 .fp8e5m2 := txwM.slice (halfR h) (fun _ => rfl)
abbrev rxx (s : Fin 3) : Memref sig .tc .vmem S1024x1024 .fp8e4m3 :=
  (rxxM.slice (slotR s) (fun _ => rfl)).squeeze S1024x1024 squeezes_S1x1024x1024_S1024x1024
abbrev rxw (s : Fin 3) (h : Fin 2) : Memref sig .tc .vmem S1024x1024 .fp8e5m2 :=
  (rxwM.slice (slotHalfR s h) (fun _ => rfl)).squeeze S1024x1024 squeezes_S1x1024x1024_S1024x1024

/-- What one transfer adds to the semaphores it completes on. Every transfer of this kernel moves one 1024 × 1024
    block of one-byte elements, so they all add the same amount. -/
def N : ℕ := (rxx 0).view.dmaCredit
theorem N_pos : 0 < N := View.dmaCredit_pos _ (by decide)
theorem credit_rxx (s : Fin 3) : (rxx s).view.dmaCredit = N := rfl
theorem credit_rxw (s : Fin 3) (h : Fin 2) : (rxw s h).view.dmaCredit = N := rfl
theorem credit_txx (s : Fin 3) : (txx s).view.dmaCredit = N := rfl
theorem credit_txw (h : Fin 2) : (txw h).view.dmaCredit = N := rfl

/-! ## The semaphores -/

/-- What a transfer moves: the block of `x`, or one of the two halves of `w`. -/
abbrev Item : Type := Fin 3

/-- A device's semaphores: the barrier (`none`); per peer and item the one its send completes on
    (`some (false, j, k)`) and the one the arrival in a slot completes on (`some (true, s, k)`). -/
abbrev Cell : Type := Option (Bool × Fin 3 × Item)

abbrev barS : Sem sig := (SemArray.scalar (sig.barrier 0 rfl) : Sems sig S_).sem

/-- The transfer semaphores by number: sends of `x` 5–7, of `w` 8–13, arrivals of `x` 14–16, of `w` 17–22. -/
def dsem : Bool × Fin 3 × Item → DmaSem sig := fun
  | (false, j, k) => (![![5, 8, 9], ![6, 10, 11], ![7, 12, 13]] : Fin 3 → Fin 3 → Fin 23) j k
  | (true, s, k) => (![![14, 17, 18], ![15, 19, 20], ![16, 21, 22]] : Fin 3 → Fin 3 → Fin 23) s k

def csem : Cell → SemLoc sig := fun
  | none => .reg barS
  | some i => .dma (dsem i)

abbrev kcell (x : Dev nD × Cell) : GSem nD τ sig := ((x.1 : Thread nD τ), csem x.2)

theorem dsem_injective : Function.Injective dsem := by decide
theorem csem_injective : Function.Injective csem := by
  rintro (_ | i) (_ | i') h
  · rfl
  · cases h
  · cases h
  · exact congrArg some (dsem_injective (SemLoc.dma.inj h))
theorem kcell_injective : Function.Injective (kcell : Dev nD × Cell → GSem nD τ sig) := by
  rintro ⟨c, k⟩ ⟨c', k'⟩ h
  exact Prod.ext (congrArg (fun g : GSem nD τ sig => g.1.1) h) (csem_injective (congrArg Prod.snd h))

/-! ## The values that travel -/

section Values
variable (m : (ℓ : Loc nD τ sig) → Buf (Elt F) ℓ)

/-- Device `c`'s columns of `x`, its rows of `w`, the two scales, as the kernel stages them. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

/-- The rows of device `c`'s `x` that its `j`-th peer's part of the result needs. -/
abbrev rowsR (c : Dev nD) (j : Fin 3) : Rect S4096x1024 :=
  Rect.unit (s := S4096x1024) (k0_off1 c (BitVec.ofNat 32 (1 + j.val))) S1024x1024.size (k0_off1_inb c j)
/-- The rows that its own part needs. -/
abbrev ownRowsR (c : Dev nD) : Rect S4096x1024 := Rect.unit (s := S4096x1024) (k0_off2 c) S1024x1024.size (k0_off2_inb c)

/-- What device `c` sends its `j`-th peer of `x`: that peer's rows. -/
def sentX (c : Dev nD) (j : Fin 3) : Vec F S1024x1024 .fp8e4m3 := xM.view.readAt (Elt F) (rowsR c j).toLoadRect (xstg m c)
/-- What device `c` sends every peer of `w`: a column half. -/
def sentW (c : Dev nD) (h : Fin 2) : Vec F S1024x1024 .fp8e5m2 := wM.view.readAt (Elt F) (halfR h).toLoadRect (wstg m c)

end Values

end Cert.Exchange

end
-- ==== Proof.Schedule.lean ====
/-
# The schedule of the exchange

Every semaphore of a device is used for one round. Its barrier is raised three times, by the three other devices, each
handing over with its unit the slot of its own receive buffers that the signalled device will write. A send semaphore is raised once, when the bytes have left: the source piece comes back. An arrival
semaphore is raised once, when the bytes are there: the slot comes back holding the sender's value.

The contents are part of the schedule, so the run proved over it says what every buffer holds.
-/
module

public import proofs.«01_k».proof.Proof.Pieces

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds, and the exchange's with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The payloads -/

/-- A piece of device `c`'s memory, held whole at contents nobody names. -/
def free (c : Dev nD) {sp : Space} {s : Shape} {e : EltTy} (p : Memref sig .tc sp s e) : sProp 𝕄 :=
  iprop(∃ f, p.view.loc (c : Thread nD τ) ↦[p.view.set]{fullShare} f)

/-- The part of a slot that item `k` arrives in, on device `d`. -/
def rxFree (d : Dev nD) (s : Fin 3) (k : Item) : sProp 𝕄 := match k with
  | 0 => free d (rxx s)
  | 1 => free d (rxw s 0)
  | 2 => free d (rxw s 1)

/-- What the `j`-th peer of `c` hands over with its barrier unit: the slot `c` writes there. -/
abbrev barPay (c : Dev nD) (j : Fin 3) : sProp 𝕄 :=
  iprop(rxFree (peer c j) (rev j) 0 ∗ rxFree (peer c j) (rev j) 1 ∗ rxFree (peer c j) (rev j) 2)

/-- How much of a half of `w` one send borrows: the sends to the first and third peers are under way at the same time
    and share it, the send to the second peer has it alone. -/
def lent (j : Fin 3) : PosShare TreeShare := match j with
  | 0 => fullShare.left
  | 1 => fullShare
  | 2 => fullShare.right

/-- What a completed send gives back. -/
def sendPay (c : Dev nD) (j : Fin 3) (k : Item) : sProp 𝕄 := match k with
  | 0 => owns (c : Thread nD τ) (txx j) fullShare (sentX m c j)
  | 1 => owns (c : Thread nD τ) (txw 0) (lent j) (sentW m c 0)
  | 2 => owns (c : Thread nD τ) (txw 1) (lent j) (sentW m c 1)

/-- What an arrival gives: the slot holding what its sender sent. -/
def recvPay (c : Dev nD) (s : Fin 3) (k : Item) : sProp 𝕄 := match k with
  | 0 => owns (c : Thread nD τ) (rxx s) fullShare (sentX m (peer c s) (rev s))
  | 1 => owns (c : Thread nD τ) (rxw s 0) fullShare (sentW m (peer c s) 0)
  | 2 => owns (c : Thread nD τ) (rxw s 1) fullShare (sentW m (peer c s) 1)

instance free_storable (c : Dev nD) {sp : Space} {s : Shape} {e : EltTy} (p : Memref sig .tc sp s e) :
    BI.Storable (upEmb : UEmb _ 𝕄) (free (F := F) c p) := by unfold free; infer_instance
instance barPay_storable (c : Dev nD) (j : Fin 3) : BI.Storable (upEmb : UEmb _ 𝕄) (barPay (F := F) c j) := by
  unfold barPay rxFree; infer_instance
instance sendPay_storable (c : Dev nD) (j : Fin 3) (k : Item) : BI.Storable (upEmb : UEmb _ 𝕄) (sendPay m c j k) := by
  unfold sendPay; split <;> infer_instance
instance recvPay_storable (c : Dev nD) (s : Fin 3) (k : Item) : BI.Storable (upEmb : UEmb _ 𝕄) (recvPay m c s k) := by
  unfold recvPay; split <;> infer_instance

/-! ## The schedule -/

/-- Which of the exchange's semaphores this one is, if any. -/
def kindOf : SemLoc sig → Option Cell := Function.partialInv csem

theorem kindOf_csem (x : Cell) : kindOf (csem x) = some x := Function.partialInv_left csem_injective x
theorem kindOf_of_ne {sm : SemLoc sig} (h : ∀ x, csem x ≠ sm) : kindOf sm = none :=
  dif_neg fun ⟨x, hx⟩ => h x hx

def dutiesOf : Option Cell → Finset (Fin 3)
  | some none => Finset.univ
  | some (some _) => {0}
  | none => ∅

/-- What one duty adds to a semaphore: a unit to a barrier, a transfer's amount to the others. -/
def amt : Cell → ℕ
  | none => 1
  | some _ => N

def payOf (c : Dev nD) (d : Fin 3) : Option Cell → sProp 𝕄
  | some none => barPay c d
  | some (some (false, j, k)) => sendPay m c j k
  | some (some (true, s, k)) => recvPay m c s k
  | none => iprop(emp)

def plan : Rounds.Schedule (GSem nD τ sig) (Fin 3) 𝕄 where
  duties g r := if r = 0 ∧ g.1.2 = .tc then dutiesOf (kindOf g.2) else ∅
  unitless _ := False
  amount g _ _ := ((kindOf g.2).map amt).getD N
  payload g _ d := payOf m g.1.1 d (kindOf g.2)
  amount_pos g _ _ _ := by
    rcases kindOf g.2 with _ | _ | _
    · exact N_pos
    · exact Nat.one_pos
    · exact N_pos

instance plan_storable (g : GSem nD τ sig) (r : ℕ) (d : Fin 3) :
    BI.Storable (upEmb : UEmb _ 𝕄) ((plan m).payload g r d) := by
  show BI.Storable upEmb (payOf m g.1.1 d (kindOf g.2))
  rcases kindOf g.2 with _ | _ | ⟨_ | _, _, _⟩ <;> (unfold payOf; infer_instance)

section Facts
variable (c : Dev nD)

theorem duties_bar : (plan m).duties (kcell (c, none)) 0 = Finset.univ := by
  dsimp only [plan]; rw [if_pos ⟨rfl, rfl⟩, kindOf_csem]; rfl
theorem duties_xfer (i : Bool × Fin 3 × Item) : (plan m).duties (kcell (c, some i)) 0 = {0} := by
  dsimp only [plan]; rw [if_pos ⟨rfl, rfl⟩, kindOf_csem]; rfl
theorem duties_later (g : GSem nD τ sig) : ∀ r, 1 ≤ r → (plan m).duties g r = ∅ :=
  fun r hr => if_neg fun h => by omega

theorem amount_cell (x : Cell) (d : Fin 3) : (plan m).amount (kcell (c, x)) 0 d = amt x := by
  show ((kindOf (csem x)).map amt).getD N = _
  rw [kindOf_csem]; rfl
theorem payload_cell (x : Cell) (d : Fin 3) : (plan m).payload (kcell (c, x)) 0 d = payOf m c d (some x) := by
  show payOf m c d (kindOf (csem x)) = _
  rw [kindOf_csem]

/-- Everything a semaphore is raised by in its round. -/
def total : Cell → ℕ
  | none => 3
  | some _ => N

theorem expect_cell (x : Cell) : (plan m).expect (kcell (c, x)) 0 = total x := by
  unfold Schedule.expect Schedule.amountOf
  rw [Finset.sum_congr rfl fun d _ => amount_cell m c x d, Finset.sum_const, smul_eq_mul]
  rcases x with _ | i
  · rw [duties_bar]; rfl
  · rw [duties_xfer]; exact Nat.one_mul _

/-- All the payloads of a semaphore's round together. -/
def got : Cell → sProp 𝕄
  | none => iprop(barPay c 0 ∗ barPay c 1 ∗ barPay c 2)
  | some (false, j, k) => sendPay m c j k
  | some (true, s, k) => recvPay m c s k

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem got_eq (x : Cell) : bigSep ((plan m).duties (kcell (c, x)) 0 \ ∅) (fun d => (plan m).payload (kcell (c, x)) 0 d) = got m c x := by
  rw [Finset.sdiff_empty, bigSep_congr fun d _ => payload_cell m c x d]
  rcases x with _ | ⟨_ | _, j, k⟩
  · rw [duties_bar, bigSep_fin3]; rfl
  · rw [duties_xfer, bigSep_singleton]; rfl
  · rw [duties_xfer, bigSep_singleton]; rfl

end Facts

/-! ## What a device owes, and in which order it may wait -/

/-- The raises still owed, listed in the order they are made. -/
def owe : List (Dev nD × Cell) → CellTallies nD τ sig Unit
  | [] => 0
  | x :: l => owe l + tallyAt (kcell x) () (amt x.2)

/-- Device `c`'s arrival on its `j`-th peer. -/
abbrev arrival (c : Dev nD) (j : Fin 3) (k : Item) : Dev nD × Cell := (peer c j, some (true, rev j, k))

/-- The transfers, in the order they are started. -/
abbrev sends (c : Dev nD) : List (Dev nD × Cell) :=
  [arrival c 0 0, arrival c 2 0, arrival c 0 1, arrival c 2 1, arrival c 0 2, arrival c 2 2, arrival c 1 0, arrival c 1 1, arrival c 1 2]

/-- Everything device `c` owes the others at launch. -/
abbrev debts (c : Dev nD) : List (Dev nD × Cell) := (peer c 0, none) :: (peer c 1, none) :: (peer c 2, none) :: sends c

theorem owe_apply (l : List (Dev nD × Cell)) (x : Dev nD × Cell) : owe l (kcell x) () = l.count x * amt x.2 := by
  induction l with
  | nil => rw [List.count_nil, Nat.zero_mul]; rfl
  | cons y l ih =>
    unfold owe
    rw [Pi.add_apply, Finsupp.add_apply, ih, tallyAt_apply, List.count_cons]
    by_cases h : y = x
    · subst h; rw [if_pos ⟨rfl, rfl⟩, if_pos (beq_self_eq_true _), Nat.add_mul, Nat.one_mul]
    · rw [if_neg (fun h' => h (kcell_injective h'.1.symm)), if_neg (fun h' => h (beq_iff_eq.mp h')), Nat.add_zero, Nat.add_zero]

theorem owe_pos {l : List (Dev nD × Cell)} {g : GSem nD τ sig} {u : Unit} (h : 0 < owe l g u) : ∃ x ∈ l, g = kcell x := by
  induction l with
  | nil => exact absurd h (Nat.lt_irrefl 0)
  | cons y l ih =>
    unfold owe at h
    rw [Pi.add_apply, Finsupp.add_apply, tallyAt_apply] at h
    by_cases hy : g = kcell y ∧ u = ()
    · exact ⟨y, List.mem_cons_self, hy.1⟩
    · rw [if_neg hy, Nat.add_zero] at h
      obtain ⟨x, hx, hg⟩ := ih h
      exact ⟨x, List.mem_cons_of_mem _ hx, hg⟩

def L (g : GSem nD τ sig) : Finset Unit := if g.1.2 = .tc then {()} else ∅
theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _

/-- The order of waiting: sends and staging first, then the barriers, then the arrivals. -/
def rank : Option Cell → ℕ
  | some none => 1
  | some (some (true, _, _)) => 2
  | _ => 0

def lv (g : GSem nD τ sig) (_ : Unit) : ℕ := rank (kindOf g.2)

theorem lv_cell (x : Dev nD × Cell) (u : Unit) : lv (kcell x) u = rank (some x.2) := by
  unfold lv; rw [kindOf_csem]

/-- A device may wait on a semaphore ranked below everything it still owes. -/
theorem mayWait (c : Dev nD) (sm : SemLoc sig) (l : List (Dev nD × Cell)) (h : ∀ x ∈ l, rank (kindOf sm) < rank (some x.2)) :
    (levAts L lv : sProp 𝕄) ⊢ MayWait (c : Thread nD τ) sm () (owe l) :=
  MayOwe.of_cut (L := L) (lev := lv) (rank (kindOf sm)) (fun p hp => by rw [Finset.mem_singleton.mp hp]; exact mem_L _ _ _)
    (fun g u hg => by obtain ⟨x, -, rfl⟩ := owe_pos hg; exact mem_L _ _ _)
    (fun p hp => by rw [Finset.mem_singleton.mp hp]; exact le_rfl)
    (fun g u hg => by obtain ⟨x, hx, rfl⟩ := owe_pos hg; rw [lv_cell]; exact h x hx)

end Cert.Exchange

end
-- ==== Proof.Steps.lean ====
/-
# The exchange's three kinds of step

A signal to a peer's barrier, a transfer to a peer, a wait on one of a device's own semaphores: each as a rule over
the schedule, for any device, peer and item. A wait is the only one on its semaphore, so it also returns the
semaphore's counter at zero.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

abbrev 𝒱₀ : Variants := Variants.none

/-- Running `p` on device `c` establishes `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What is known of every semaphore of the mesh throughout: its invariant, and that its round is open. -/
def records : sProp 𝕄 :=
  iprop((bigSep Finset.univ fun x : Dev nD × Cell => cellInv ER (plan m) (K x) (kcell x))
    ∗ bigSep Finset.univ fun x : Dev nD × Cell => reached ER (kcell x) 0)

instance records_persistent : BI.Persistent (records m K) := by unfold records; infer_instance

theorem records_inv (x : Dev nD × Cell) : records m K ⊢ cellInv ER (plan m) (K x) (kcell x) := by
  have h : (bigSep Finset.univ fun x : Dev nD × Cell => (cellInv ER (plan m) (K x) (kcell x) : sProp 𝕄)) ⊢ cellInv ER (plan m) (K x) (kcell x) :=
    bigSep_elim (Finset.mem_univ x)
  unfold records
  iintro ⟨H, -⟩
  iapply h; iexact H

theorem records_reached (x : Dev nD × Cell) : records m K ⊢ reached ER (kcell x) 0 := by
  have h : (bigSep Finset.univ fun x : Dev nD × Cell => (reached ER (kcell x) 0 : sProp 𝕄)) ⊢ reached ER (kcell x) 0 :=
    bigSep_elim (Finset.mem_univ x)
  unfold records
  iintro ⟨-, H⟩
  iapply h; iexact H

/-- Device `c` still owes the raises `l`. -/
def ow (c : Dev nD) (l : List (Dev nD × Cell)) : sProp 𝕄 := iprop(∃ W, owes (c : Thread nD τ) (owe l) W)

/-! ## A signal -/

/-- A device signals its `j`-th peer's barrier, handing over its own slot `j`, which that peer will write. -/
theorem step_signal (c n : Dev nD) (j : Fin 3) (hn : n = peer c j) (l : List (Dev nD × Cell))
    {α : Type} {Q : α → sProp 𝕄} {k : PUnit → Prog (TpuEff nD τ sig (Elt F) Λ₀ .tc) α} :
    iprop(records m K ∗ ow c ((peer c j, none) :: l) ∗ dutyTok ER (kcell (peer c j, none)) 0 (rev j)
        ∗ rxFree c j 0 ∗ rxFree c j 1 ∗ rxFree c j 2)
      ⊢ iprop((ow c l -∗ runs c (k ⟨⟩) Q)
          -∗ runs c (.op (.semSignal (n : Thread nD τ) barS 1) k) Q) := by
  subst hn
  unfold ow
  iintro ⟨#Hr, ⟨%W, HO⟩, Htok, H0, H1, H2⟩ Hk
  iapply (Rounds.wp_signal 𝒱₀ ER (plan m) (c : Thread nD τ) none (dst := (peer c j : Thread nD τ)) (sem := barS) (κ := K (peer c j, none))
      (d := rev j) (r := 0) (k' := 1) (by rw [show (((peer c j : Dev nD) : Thread nD τ), SemLoc.reg barS) = kcell (peer c j, none) from rfl, duties_bar]; exact Finset.mem_univ _)
      (amount_cell m (peer c j) none (rev j)) () (owe l) rfl (W := W)) $$ [HO Htok H0 H1 H2]
  · isplitr; · iapply (records_inv m K (peer c j, none)); iexact Hr
    isplitl [HO]; · iexact HO
    isplitl [Htok]; · iexact Htok
    isplitl
    · iapply (Entails.of_eq (show payOf m (peer c j) (rev j) (some none) = (plan m).payload ((peer c j : Thread nD τ), SemLoc.reg barS) 0 (rev j) from
        (payload_cell m (peer c j) none (rev j)).symm))
      dsimp only [payOf]; unfold barPay; rw [peer_rev, rev_rev]
      isplitl [H0]; · iexact H0
      isplitl [H1]; · iexact H1
      iexact H2
    · iapply (records_reached m K (peer c j, none)); iexact Hr
  iintro HO
  iapply Hk
  iexists W; iexact HO

/-! ## A wait -/

/-- A wait on a device's own semaphore for all of its round: the payloads come, and the counter stays at zero. -/
theorem step_wait (c : Dev nD) (x : Cell) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem x) (total x) P)
    (l : List (Dev nD × Cell)) (hl : ∀ y ∈ l, rank (some x) < rank (some y.2))
    {α : Type} {Q : α → sProp 𝕄} {k : PUnit → Prog (TpuEff nD τ sig (Elt F) Λ₀ .tc) α} :
    iprop(records m K ∗ levAts L lv ∗ cred (tallyAt (kcell (c, x)) () (total x)) ∗ ow c l ∗ atPos ER (kcell (c, x)) 0 ∅ 0)
      ⊢ iprop(((ow c l ∗ semVal (kcell (c, x)) 0 ∗ got m c x) -∗ runs c (k ⟨⟩) Q) -∗ runs c (.op w k) Q) := by
  unfold ow
  iintro ⟨#Hr, #Hlev, Hc, ⟨%W, HO⟩, Hat⟩ Hk
  iapply (Rounds.wp_wait_rest_token 𝒱₀ ER (plan m) (c : Thread nD τ) none (κ := K (c, x)) (sm := csem x) hw (Set.mem_univ _) ()
      (O := owe l) (W := W) (R := 0) (m := 0) (T := ∅) (by rw [Nat.zero_add]; exact (expect_cell m c x).symm)) $$ [Hc HO Hat]
  · isplitr; · iapply (records_inv m K (c, x)); iexact Hr
    isplitl [Hc]; · iexact Hc
    isplitl [HO]; · iexact HO
    isplitr; · iapply (mayWait c (csem x) l (by rw [kindOf_csem]; exact hl)); iexact Hlev
    iexact Hat
  iintro ⟨HO, Hat, -, Hpay⟩
  ihave Hp := (Entails.of_eq (got_eq m c x)) $$ Hpay
  imod (Rounds.cell_close ER (plan m) (Set.mem_univ (K (c, x))) (fun h => h) (R := 0 + 1) (duties_later m (kcell (c, x)))) $$ [Hat] with Hz
  · isplitr; · iapply (records_inv m K (c, x)); iexact Hr
    iexact Hat
  iapply Hk
  isplitl [HO]; · iexists _; iexact HO
  isplitl [Hz]; · iexact Hz
  iexact Hp

/-! ## A transfer -/

/-- A device sends item `k`, held at `X` in `src`, to its `j`-th peer's piece `dst`. -/
theorem step_send (c n : Dev nD) (j : Fin 3) (k : Item) (hn : n = peer c j) {e : EltTy}
    {src dst : Memref sig .tc .vmem S1024x1024 e} (q : PosShare TreeShare) (X : S1024x1024.Idx → Elt F e)
    (hS : owns (c : Thread nD τ) src q X = sendPay m c j k)
    (hD : owns (peer c j : Thread nD τ) dst fullShare X = recvPay m (peer c j) (rev j) k)
    (hF : rxFree (peer c j) (rev j) k = (free (peer c j) dst : sProp 𝕄)) (hN : dst.view.dmaCredit = N)
    {sS sR : SemLoc sig} (h1 : sS = csem (some (false, j, k))) (h2 : sR = csem (some (true, rev j, k)))
    {hsc : dst.view.ref.isScScratch = false} {hsrc : src.view.WordExact} {hdst : dst.view.WordExact}
    {hsem : DmaTarget.Typed .vmem sR (.remote (Dev.tc n : Thread nD τ) dst sS hsc)}
    (l : List (Dev nD × Cell))
    {α : Type} {Q : α → sProp 𝕄} {kt : PUnit → Prog (TpuEff nD τ sig (Elt F) Λ₀ .tc) α} :
    iprop(records m K ∗ sendPay m c j k ∗ rxFree (peer c j) (rev j) k ∗ ow c (arrival c j k :: l)
        ∗ dutyTok ER (kcell (c, some (false, j, k))) 0 0 ∗ dutyTok ER (kcell (arrival c j k)) 0 0)
      ⊢ iprop(((cred (tallyAt (kcell (c, some (false, j, k))) () N) ∗ ow c l) -∗ runs c (kt ⟨⟩) Q)
          -∗ runs c (.op (.enqueueDma src (.remote (Dev.tc n : Thread nD τ) dst sS hsc) sR hsrc hdst hsem) kt) Q) := by
  subst hn h1 h2
  unfold ow
  rw [hF, ← hS]
  unfold free
  iintro ⟨#Hr, Hsrc, ⟨%fd, Hdst⟩, ⟨%W, HO⟩, HtS, HtR⟩ Hk
  ihave Hs := (show owns (c : Thread nD τ) src q X ⊢ iprop(∃ f, ⌜src.view.read (Elt F) f = X⌝ ∗ (src.view.loc (c : Thread nD τ) ↦[src.view.set]{q} f)) from .rfl) $$ Hsrc
  icases Hs with ⟨%fs, %hfs, Hsrc⟩
  iapply (Rounds.wp_send_pointsTo 𝒱₀ ER (plan m) (c : Thread nD τ) none (κ₁ := K (c, some (false, j, k))) (κ₂ := K (arrival c j k))
    (r₁ := 0) (r₂ := 0) (d₁ := 0) (d₂ := 0) (fs := fs) (fd := fd) (q := q)
    (by rw [show ((c : Thread nD τ), csem (some (false, j, k))) = kcell (c, some (false, j, k)) from rfl, duties_xfer]; exact Finset.mem_singleton_self _)
    (by rw [show ((Dev.tc (peer c j) : Thread nD τ), csem (some (true, rev j, k))) = kcell (arrival c j k) from rfl, duties_xfer]; exact Finset.mem_singleton_self _)
    () () N (show dst.view.amount (csem (some (true, rev j, k))) = N from hN) (amount_cell m c (some (false, j, k)) 0) (amount_cell m (peer c j) (some (true, rev j, k)) 0) (owe l) rfl (W := W)
    (by
      refine BIBase.Entails.trans ?_ (Entails.of_eq (payload_cell m c (some (false, j, k)) 0).symm)
      dsimp only [payOf]
      rw [← hS]
      unfold owns
      iintro H
      iexists fs
      isplitr; · ipureintro; exact hfs
      iexact H)
    (by
      refine BIBase.Entails.trans ?_ (Entails.of_eq (payload_cell m (peer c j) (some (true, rev j, k)) 0).symm)
      dsimp only [payOf]
      rw [← hD]
      unfold owns
      iintro H
      iexists (dst.view.write (Elt F) fd (src.view.read (Elt F) fs) Finset.univ)
      isplitr; · ipureintro; exact (View.read_write_univ _ _).trans hfs
      iexact H)) $$ [Hsrc Hdst HO HtS HtR]
  · isplitr; · iapply (records_inv m K (c, some (false, j, k))); iexact Hr
    isplitr; · iapply (records_inv m K (arrival c j k)); iexact Hr
    isplitl [Hsrc]; · iexact Hsrc
    isplitl [Hdst]; · iexact Hdst
    isplitl [HO]; · iexact HO
    isplitl [HtS]; · iexact HtS
    isplitr; · iapply (records_reached m K (c, some (false, j, k))); iexact Hr
    isplitl [HtR]; · iexact HtR
    iapply (records_reached m K (arrival c j k)); iexact Hr
  iintro ⟨Hc, HO⟩
  iapply Hk
  isplitl [Hc]; · iexact Hc
  iexists W; iexact HO

/-- What arrives on the `j`-th peer is what was sent it. -/
theorem recvPay_peer_x (c : Dev nD) (j : Fin 3) :
    owns (peer c j : Thread nD τ) (rxx (rev j)) fullShare (sentX m c j) = recvPay m (peer c j) (rev j) 0 := by
  unfold recvPay; rw [peer_rev, rev_rev]
theorem recvPay_peer_w0 (c : Dev nD) (j : Fin 3) :
    owns (peer c j : Thread nD τ) (rxw (rev j) 0) fullShare (sentW m c 0) = recvPay m (peer c j) (rev j) 1 := by
  unfold recvPay; rw [peer_rev]
theorem recvPay_peer_w1 (c : Dev nD) (j : Fin 3) :
    owns (peer c j : Thread nD τ) (rxw (rev j) 1) fullShare (sentW m c 1) = recvPay m (peer c j) (rev j) 2 := by
  unfold recvPay; rw [peer_rev]

end Cert.Exchange

end
-- ==== Proof.Memory.lean ====
/-
# Loads and stores of pieces, and the exchange's steps over a device's bundles

A piece of a scratch buffer is held by itself: storing to it needs nothing of the rest of the buffer, loading from it
gives the value it is known to hold. The second half bundles what one transfer needs, and what one wait needs.
-/
module

public import proofs.«01_k».proof.Proof.Steps
public import Idealize.ShloMosaic.Lib.Pipeline.Value
public import Idealize.ShloMosaic.Lib.Exec.Geometry
public import Idealize.ShloMosaic.Lib.MemrefSat

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## Pieces -/

section Piece
variable (c : Dev nD) {s s' : Shape} {e : EltTy} (M : Memref sig .tc .vmem s e)

/-- A piece viewed with fewer axes is the piece. -/
theorem owns_squeeze (hq : s.Squeezes s') (h : s'.ShapeCasts s) (h' : s.ShapeCasts s') (q : PosShare TreeShare) (X : s'.Idx → Elt F e) :
    (owns (c : Thread nD τ) (M.squeeze s' hq) q X : sProp 𝕄) = owns (c : Thread nD τ) M q (shapeCast s X h) := by
  have hr : ∀ f, ((M.squeeze s' hq).view.read (Elt F) f = X) = (M.view.read (Elt F) f = shapeCast s X h) := fun f => by
    have e : (M.squeeze s' hq).view.read (Elt F) f = shapeCast s' (M.view.read (Elt F) f) h' := rfl
    rw [e]
    refine propext ⟨fun hX => ?_, fun hX => ?_⟩
    · rw [← hX, shapeCast_shapeCast]
    · rw [hX, shapeCast_shapeCast]
  unfold owns
  rw [Memref.set_view_squeeze]
  simp only [hr]

theorem free_squeeze (hq : s.Squeezes s') : (free c (M.squeeze s' hq) : sProp 𝕄) = free c M := by
  unfold free
  rw [Memref.set_view_squeeze]

variable (r : Rect s) (hr : ∀ a, r.stride a = 1)

/-- Storing to a piece held at any contents. -/
theorem step_store {α : Type} {Q : α → sProp 𝕄} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} :
    free c (M.slice r hr) ⊢ iprop((owns (c : Thread nD τ) (M.slice r hr) fullShare w -∗ runs c (k ⟨⟩) Q)
      -∗ runs c (.op (.store M r w Finset.univ hx hm) k) Q) := by
  unfold free owns
  iintro ⟨%f, H⟩ Hk
  iapply (wp_store 𝒱₀ (c : Thread nD τ) none Set.univ (m := M) (r := r) (Mk := Finset.univ) (S := (M.slice r hr).view.set) (f := f)
    (by exact subset_rfl)) $$ H
  iintro H
  iapply Hk
  iexists ((M.access r).write (Elt F) f w Finset.univ)
  isplitr; · ipureintro; exact View.read_write_univ _ _
  iexact H

/-- Loading from a piece whose value is known. -/
theorem step_load {α : Type} {Q : α → sProp 𝕄} (q : PosShare TreeShare) (X : r.shape.Idx → Elt F e) {hl : M.view.LoadsAt r.toLoadRect}
    {k : (r.shape.Idx → Elt F e) → Prog (TpuEff nD τ sig (Elt F) Λ₀ .tc) α} :
    owns (c : Thread nD τ) (M.slice r hr) q X ⊢ iprop((owns (c : Thread nD τ) (M.slice r hr) q X -∗ runs c (k X) Q)
      -∗ runs c (.op (.load M r.toLoadRect hl) k) Q) := by
  unfold owns
  iintro ⟨%f, %hf, H⟩ Hk
  subst hf
  iapply (wp_load 𝒱₀ (c : Thread nD τ) none Set.univ (m := M) (r := r.toLoadRect) (S := (M.slice r hr).view.set) (f := f) (q := q)
    (show M.view.setOn r.set ⊆ (M.view.slice r).set by rw [View.set_slice]; exact subset_rfl)) $$ H
  iintro H
  iapply Hk
  iexists f
  isplitr; · ipureintro; rfl
  iexact H

/-- Loading from a piece a value the program does not use. -/
theorem step_load_unused {α : Type} {Q : α → sProp 𝕄} {hl : M.view.LoadsAt r.toLoadRect} {p : Prog (TpuEff nD τ sig (Elt F) Λ₀ .tc) α} :
    free c (M.slice r hr) ⊢ iprop((free c (M.slice r hr) -∗ runs c p Q) -∗ runs c (.op (.load M r.toLoadRect hl) fun _ => p) Q) := by
  unfold free
  iintro ⟨%f, H⟩ Hk
  iapply (wp_load 𝒱₀ (c : Thread nD τ) none Set.univ (m := M) (r := r.toLoadRect) (S := (M.slice r hr).view.set) (f := f)
    (show M.view.setOn r.set ⊆ (M.view.slice r).set by rw [View.set_slice]; exact subset_rfl)) $$ H
  iintro H
  iapply Hk
  iexists f; iexact H

end Piece

/-! ## Bundles -/

/-- What starting one transfer needs, and the position of the semaphore that tells it is done. -/
def kit (c : Dev nD) (j : Fin 3) (k : Item) : sProp 𝕄 :=
  iprop(dutyTok ER (kcell (c, some (false, j, k))) 0 0 ∗ dutyTok ER (kcell (arrival c j k)) 0 0 ∗ atPos ER (kcell (c, some (false, j, k))) 0 ∅ 0)

/-- A wait still to be made on a device's own semaphore `x`. -/
def pend (c : Dev nD) (x : Cell) : sProp 𝕄 :=
  iprop(cred (tallyAt (kcell (c, x)) () (total x)) ∗ atPos ER (kcell (c, x)) 0 ∅ 0)

/-- The wait made: the counter is at zero. -/
def done (c : Dev nD) (x : Cell) : sProp 𝕄 := semVal (kcell (c, x)) 0

abbrev sendC (j : Fin 3) (k : Item) : Cell := some (false, j, k)
abbrev recvC (s : Fin 3) (k : Item) : Cell := some (true, s, k)

section Bundled
variable (c : Dev nD)

/-- Starting a transfer, `step_send` over the bundle. -/
theorem kit_send {α : Type} {Q : α → sProp 𝕄} {kt : PUnit → Prog (TpuEff nD τ sig (Elt F) Λ₀ .tc) α} (n : Dev nD) (j : Fin 3) (k : Item) (hn : n = peer c j) {e : EltTy}
    {src dst : Memref sig .tc .vmem S1024x1024 e} (q : PosShare TreeShare) (X : S1024x1024.Idx → Elt F e)
    (hS : owns (c : Thread nD τ) src q X = sendPay m c j k)
    (hD : owns (peer c j : Thread nD τ) dst fullShare X = recvPay m (peer c j) (rev j) k)
    (hF : rxFree (peer c j) (rev j) k = (free (peer c j) dst : sProp 𝕄)) (hN : dst.view.dmaCredit = N)
    {sS sR : SemLoc sig} (h1 : sS = csem (sendC j k)) (h2 : sR = csem (recvC (rev j) k))
    {hsc : dst.view.ref.isScScratch = false} {hsrc : src.view.WordExact} {hdst : dst.view.WordExact}
    {hsem : DmaTarget.Typed .vmem sR (.remote (Dev.tc n : Thread nD τ) dst sS hsc)}
    (l : List (Dev nD × Cell)) :
    iprop(records m K ∗ sendPay m c j k ∗ rxFree (peer c j) (rev j) k ∗ ow c (arrival c j k :: l) ∗ kit c j k)
      ⊢ iprop(((pend c (sendC j k) ∗ ow c l) -∗ runs c (kt ⟨⟩) Q)
          -∗ runs c (.op (.enqueueDma src (.remote (Dev.tc n : Thread nD τ) dst sS hsc) sR hsrc hdst hsem) kt) Q) := by
  unfold kit pend
  iintro ⟨#Hr, Hs, Hd, HO, Ht1, Ht2, Hat⟩ Hk
  iapply (step_send m K c n j k hn q X hS hD hF hN h1 h2 (hsc := hsc) (hsrc := hsrc) (hdst := hdst) (hsem := hsem) l) $$ [Hs Hd HO Ht1 Ht2]
  · isplitr; · iexact Hr
    isplitl [Hs]; · iexact Hs
    isplitl [Hd]; · iexact Hd
    isplitl [HO]; · iexact HO
    isplitl [Ht1]; · iexact Ht1
    iexact Ht2
  iintro ⟨Hc, HO⟩
  iapply Hk
  isplitr [HO]
  · isplitl [Hc]; · iexact Hc
    iexact Hat
  iexact HO

/-- The transfer of the block of `x` to the `j`-th peer, -/
theorem send_x {α : Type} {Q : α → sProp 𝕄} {kt : PUnit → Prog (TpuEff nD τ sig (Elt F) Λ₀ .tc) α} (n : Dev nD) (j : Fin 3) (hn : n = peer c j) {src dst : Memref sig .tc .vmem S1024x1024 .fp8e4m3}
    (hs : src = txx j) (hd : dst = rxx (rev j)) {sS sR : SemLoc sig} (h1 : sS = csem (sendC j 0)) (h2 : sR = csem (recvC (rev j) 0))
    {hsc : dst.view.ref.isScScratch = false} {hsrc : src.view.WordExact} {hdst : dst.view.WordExact}
    {hsem : DmaTarget.Typed .vmem sR (.remote (Dev.tc n : Thread nD τ) dst sS hsc)} (l : List (Dev nD × Cell)) :
    iprop(records m K ∗ sendPay m c j 0 ∗ rxFree (peer c j) (rev j) 0 ∗ ow c (arrival c j 0 :: l) ∗ kit c j 0)
      ⊢ iprop(((pend c (sendC j 0) ∗ ow c l) -∗ runs c (kt ⟨⟩) Q)
          -∗ runs c (.op (.enqueueDma src (.remote (Dev.tc n : Thread nD τ) dst sS hsc) sR hsrc hdst hsem) kt) Q) := by
  subst hs hd
  exact kit_send m K c n j 0 hn fullShare (sentX m c j) rfl (recvPay_peer_x m c j) rfl (credit_rxx _) h1 h2 l

/-- of the first half of `w`, -/
theorem send_w0 {α : Type} {Q : α → sProp 𝕄} {kt : PUnit → Prog (TpuEff nD τ sig (Elt F) Λ₀ .tc) α} (n : Dev nD) (j : Fin 3) (hn : n = peer c j) {src dst : Memref sig .tc .vmem S1024x1024 .fp8e5m2}
    (hs : src = txw 0) (hd : dst = rxw (rev j) 0) {sS sR : SemLoc sig} (h1 : sS = csem (sendC j 1)) (h2 : sR = csem (recvC (rev j) 1))
    {hsc : dst.view.ref.isScScratch = false} {hsrc : src.view.WordExact} {hdst : dst.view.WordExact}
    {hsem : DmaTarget.Typed .vmem sR (.remote (Dev.tc n : Thread nD τ) dst sS hsc)} (l : List (Dev nD × Cell)) :
    iprop(records m K ∗ sendPay m c j 1 ∗ rxFree (peer c j) (rev j) 1 ∗ ow c (arrival c j 1 :: l) ∗ kit c j 1)
      ⊢ iprop(((pend c (sendC j 1) ∗ ow c l) -∗ runs c (kt ⟨⟩) Q)
          -∗ runs c (.op (.enqueueDma src (.remote (Dev.tc n : Thread nD τ) dst sS hsc) sR hsrc hdst hsem) kt) Q) := by
  subst hs hd
  exact kit_send m K c n j 1 hn (lent j) (sentW m c 0) rfl (recvPay_peer_w0 m c j) rfl (credit_rxw _ _) h1 h2 l

/-- of the second. -/
theorem send_w1 {α : Type} {Q : α → sProp 𝕄} {kt : PUnit → Prog (TpuEff nD τ sig (Elt F) Λ₀ .tc) α} (n : Dev nD) (j : Fin 3) (hn : n = peer c j) {src dst : Memref sig .tc .vmem S1024x1024 .fp8e5m2}
    (hs : src = txw 1) (hd : dst = rxw (rev j) 1) {sS sR : SemLoc sig} (h1 : sS = csem (sendC j 2)) (h2 : sR = csem (recvC (rev j) 2))
    {hsc : dst.view.ref.isScScratch = false} {hsrc : src.view.WordExact} {hdst : dst.view.WordExact}
    {hsem : DmaTarget.Typed .vmem sR (.remote (Dev.tc n : Thread nD τ) dst sS hsc)} (l : List (Dev nD × Cell)) :
    iprop(records m K ∗ sendPay m c j 2 ∗ rxFree (peer c j) (rev j) 2 ∗ ow c (arrival c j 2 :: l) ∗ kit c j 2)
      ⊢ iprop(((pend c (sendC j 2) ∗ ow c l) -∗ runs c (kt ⟨⟩) Q)
          -∗ runs c (.op (.enqueueDma src (.remote (Dev.tc n : Thread nD τ) dst sS hsc) sR hsrc hdst hsem) kt) Q) := by
  subst hs hd
  exact kit_send m K c n j 2 hn (lent j) (sentW m c 1) rfl (recvPay_peer_w1 m c j) rfl (credit_rxw _ _) h1 h2 l

/-- The wait on the barrier, with every transfer still to be started. -/
theorem wait_bar {α : Type} {Q : α → sProp 𝕄} {kt : PUnit → Prog (TpuEff nD τ sig (Elt F) Λ₀ .tc) α} :
    iprop(records m K ∗ levAts L lv ∗ pend c none ∗ ow c (sends c))
      ⊢ iprop(((ow c (sends c) ∗ done c none ∗ barPay c 0 ∗ barPay c 1 ∗ barPay c 2) -∗ runs c (kt ⟨⟩) Q) -∗ runs c (.op (.semWait barS 3) kt) Q) := by
  unfold pend done
  iintro ⟨#Hr, #Hl, ⟨Hc, Hat⟩, HO⟩
  iapply (step_wait m K c none (w := .semWait barS 3) (fun P => wpE_semWait_eq (k := 3) 𝒱₀ (c : Thread nD τ) none Set.univ P) (sends c)
    (by intro y hy; unfold sends at hy; fin_cases hy <;> exact Nat.one_lt_two))
  isplitr; · iexact Hr
  isplitr; · iexact Hl
  isplitl [Hc]; · iexact Hc
  isplitl [HO]; · iexact HO
  iexact Hat

/-- A wait for a send or an arrival. -/
theorem wait_dma {α : Type} {Q : α → sProp 𝕄} {kt : PUnit → Prog (TpuEff nD τ sig (Elt F) Λ₀ .tc) α} (i : Bool × Fin 3 × Item) {sp sp' : Space} {s s' : Shape} {e e' : EltTy} {q : DmaSem sig}
    {src : Memref sig .tc sp' s' e'} {dst : Memref sig .tc sp s e} (hq : SemLoc.dma q = csem (some i)) (hN : dst.view.dmaCredit = N)
    {hsrc : src.view.WordExact} {hdst : dst.view.WordExact}
    (l : List (Dev nD × Cell)) (hl : ∀ y ∈ l, rank (some (some i)) < rank (some y.2)) :
    iprop(records m K ∗ levAts L lv ∗ pend c (some i) ∗ ow c l)
      ⊢ iprop(((ow c l ∗ done c (some i) ∗ got m c (some i)) -∗ runs c (kt ⟨⟩) Q) -∗ runs c (.op (.waitDma2 q src dst hsrc hdst) kt) Q) := by
  unfold pend done
  iintro ⟨#Hr, #Hl, ⟨Hc, Hat⟩, HO⟩
  iapply (step_wait m K c (some i) (w := .waitDma2 q src dst hsrc hdst)
    (fun P => by rw [← hq]; show _ = waitSpec _ _ _ N _; rw [← hN]; exact wpE_waitDma2_eq 𝒱₀ (c : Thread nD τ) none Set.univ P) l hl)
  isplitr; · iexact Hr
  isplitr; · iexact Hl
  isplitl [Hc]; · iexact Hc
  isplitl [HO]; · iexact HO
  iexact Hat

end Bundled

/-! ## What the loads of the staged blocks and of the slots read -/

/-- The staged blocks, held whole. -/
def xPts (c : Dev nD) : sProp 𝕄 := (c : Thread nD τ).loc cc0_stg0_0 ↦{fullShare} xstg m c
def wPts (c : Dev nD) : sProp 𝕄 := (c : Thread nD τ).loc cc0_stg1_0 ↦{fullShare} wstg m c

section Loads
variable (c : Dev nD)

theorem load_rows {α : Type} {Q : α → sProp 𝕄} (j : Fin 3) {b : BitVec 32} (hb : b = BitVec.ofNat 32 (1 + j.val))
    {inb : ∀ a, k0_off1 c b a + S1024x1024.size a ≤ S4096x1024.size a}
    {hl : xM.view.LoadsAt (Rect.unit (s := S4096x1024) (k0_off1 c b) S1024x1024.size inb).toLoadRect}
    {k : Vec F S1024x1024 .fp8e4m3 → Prog (TpuEff nD τ sig (Elt F) Λ₀ .tc) α} :
    xPts m c ⊢ iprop((xPts m c -∗ runs c (k (sentX m c j)) Q)
      -∗ runs c (.op (.load xM (Rect.unit (s := S4096x1024) (k0_off1 c b) S1024x1024.size inb).toLoadRect hl) k) Q) := by
  subst hb
  exact wp_load 𝒱₀ (c : Thread nD τ) none Set.univ (m := xM) (Finset.subset_univ _)

theorem load_half {α : Type} {Q : α → sProp 𝕄} (h : Fin 2) {hl : wM.view.LoadsAt (halfR h).toLoadRect}
    {k : Vec F S1024x1024 .fp8e5m2 → Prog (TpuEff nD τ sig (Elt F) Λ₀ .tc) α} :
    wPts m c ⊢ iprop((wPts m c -∗ runs c (k (sentW m c h)) Q) -∗ runs c (.op (.load wM (halfR h).toLoadRect hl) k) Q) :=
  wp_load 𝒱₀ (c : Thread nD τ) none Set.univ (m := wM) (Finset.subset_univ _)

/-- The block of `x` in slot `s` after its arrival, as a load of the slot reads it; -/
def gotX (s : Fin 3) : Vec F S1x1024x1024 .fp8e4m3 :=
  shapeCast S1x1024x1024 (sentX m (peer c s) (rev s)) shapeCasts_S1024x1024_S1x1024x1024
/-- the half `h` of `w` in slot `s`. -/
def gotW (s : Fin 3) (h : Fin 2) : Vec F S1x1024x1024 .fp8e5m2 :=
  shapeCast S1x1024x1024 (sentW m (peer c s) h) shapeCasts_S1024x1024_S1x1024x1024

theorem load_rxx {α : Type} {Q : α → sProp 𝕄} (s : Fin 3) {hl : rxxM.view.LoadsAt (slotR s).toLoadRect}
    {k : Vec F S1x1024x1024 .fp8e4m3 → Prog (TpuEff nD τ sig (Elt F) Λ₀ .tc) α} :
    recvPay m c s 0 ⊢ iprop((recvPay m c s 0 -∗ runs c (k (gotX m c s)) Q) -∗ runs c (.op (.load rxxM (slotR s).toLoadRect hl) k) Q) := by
  rw [show recvPay m c s 0 = owns (c : Thread nD τ) (rxxM.slice (slotR s) (fun _ => rfl)) fullShare (gotX m c s) from
    owns_squeeze c (rxxM.slice (slotR s) (fun _ => rfl)) _ shapeCasts_S1024x1024_S1x1024x1024 shapeCasts_S1x1024x1024_S1024x1024 _ _]
  exact step_load c rxxM (slotR s) (fun _ => rfl) fullShare (gotX m c s)

theorem recvPay_w (s : Fin 3) (h : Fin 2) : (owns (c : Thread nD τ) (rxw s h) fullShare (sentW m (peer c s) h) : sProp 𝕄)
    = owns (c : Thread nD τ) (rxwM.slice (slotHalfR s h) (fun _ => rfl)) fullShare (gotW m c s h) :=
  owns_squeeze c (rxwM.slice (slotHalfR s h) (fun _ => rfl)) _ shapeCasts_S1024x1024_S1x1024x1024 shapeCasts_S1x1024x1024_S1024x1024 _ _

theorem load_rxw0 {α : Type} {Q : α → sProp 𝕄} (s : Fin 3) {hl : rxwM.view.LoadsAt (slotHalfR s 0).toLoadRect}
    {k : Vec F S1x1024x1024 .fp8e5m2 → Prog (TpuEff nD τ sig (Elt F) Λ₀ .tc) α} :
    recvPay m c s 1 ⊢ iprop((recvPay m c s 1 -∗ runs c (k (gotW m c s 0)) Q) -∗ runs c (.op (.load rxwM (slotHalfR s 0).toLoadRect hl) k) Q) := by
  rw [show recvPay m c s 1 = _ from recvPay_w m c s 0]
  exact step_load c rxwM (slotHalfR s 0) (fun _ => rfl) fullShare (gotW m c s 0)

theorem load_rxw1 {α : Type} {Q : α → sProp 𝕄} (s : Fin 3) {hl : rxwM.view.LoadsAt (slotHalfR s 1).toLoadRect}
    {k : Vec F S1x1024x1024 .fp8e5m2 → Prog (TpuEff nD τ sig (Elt F) Λ₀ .tc) α} :
    recvPay m c s 2 ⊢ iprop((recvPay m c s 2 -∗ runs c (k (gotW m c s 1)) Q) -∗ runs c (.op (.load rxwM (slotHalfR s 1).toLoadRect hl) k) Q) := by
  rw [show recvPay m c s 2 = _ from recvPay_w m c s 1]
  exact step_load c rxwM (slotHalfR s 1) (fun _ => rfl) fullShare (gotW m c s 1)

/-- Filling a send slot: the old contents are read and not used, then the block is stored. -/
theorem fill_txx {α : Type} {Q : α → sProp 𝕄} (j : Fin 3) {w : Vec F S1x1024x1024 .fp8e4m3}
    (hw : w = shapeCast S1x1024x1024 (sentX m c j) shapeCasts_S1024x1024_S1x1024x1024)
    {hl : txxM.view.LoadsAt (slotR j).toLoadRect} {hx : (txxM.access (slotR j)).Stores Finset.univ}
    {hm : (Finset.univ : Finset (slotR j).shape.Idx) = Finset.univ ∨ ∀ a, (slotR j).stride a = 1}
    {k : PUnit → Prog (TpuEff nD τ sig (Elt F) Λ₀ .tc) α} :
    free c (txx j) ⊢ iprop((sendPay m c j 0 -∗ runs c (k ⟨⟩) Q)
      -∗ runs c (.op (.load txxM (slotR j).toLoadRect hl) fun _ => .op (.store txxM (slotR j) w Finset.univ hx hm) k) Q) := by
  subst hw
  rw [show sendPay m c j 0 = _ from owns_squeeze c (txxM.slice (slotR j) (fun _ => rfl)) _ shapeCasts_S1024x1024_S1x1024x1024
      shapeCasts_S1x1024x1024_S1024x1024 fullShare (sentX m c j), free_squeeze]
  iintro H Hk
  iapply (step_load_unused c txxM (slotR j) (fun _ => rfl)) $$ H
  iintro H
  iapply (step_store c txxM (slotR j) (fun _ => rfl)) $$ H
  iexact Hk

/-- Filling a half of the send buffer for `w`: what is stored is shared out over the two sends that borrow it at once. -/
theorem fill_txw {α : Type} {Q : α → sProp 𝕄} (h : Fin 2) {w : Vec F S1024x1024 .fp8e5m2} (hw : w = sentW m c h)
    {hl : txwM.view.LoadsAt (halfR h).toLoadRect} {hx : (txwM.access (halfR h)).Stores Finset.univ}
    {hm : (Finset.univ : Finset (halfR h).shape.Idx) = Finset.univ ∨ ∀ a, (halfR h).stride a = 1}
    {k : PUnit → Prog (TpuEff nD τ sig (Elt F) Λ₀ .tc) α} :
    free c (txw h) ⊢ iprop(((owns (c : Thread nD τ) (txw h) fullShare.left (sentW m c h) ∗ owns (c : Thread nD τ) (txw h) fullShare.right (sentW m c h))
        -∗ runs c (k ⟨⟩) Q)
      -∗ runs c (.op (.load txwM (halfR h).toLoadRect hl) fun _ => .op (.store txwM (halfR h) w Finset.univ hx hm) k) Q) := by
  subst hw
  iintro H Hk
  iapply (step_load_unused c txwM (halfR h) (fun _ => rfl)) $$ H
  iintro H
  iapply (step_store c txwM (halfR h) (fun _ => rfl)) $$ H
  iintro H
  iapply Hk
  iapply (owns_halves (c : Thread nD τ) (txw h) fullShare (sentW m c h)).1
  iexact H

/-- The two shares of a half of `w` put together. -/
theorem whole_txw (h : Fin 2) :
    iprop(owns (c : Thread nD τ) (txw h) fullShare.left (sentW m c h) ∗ owns (c : Thread nD τ) (txw h) fullShare.right (sentW m c h))
      ⊢ (owns (c : Thread nD τ) (txw h) fullShare (sentW m c h) : sProp 𝕄) :=
  (owns_halves (c : Thread nD τ) (txw h) fullShare (sentW m c h)).2

end Loads

end Cert.Exchange

end
-- ==== Proof.Moves.lean ====
/-
# The result block, and the body's steps one after another

What the result block holds after each of the kernel's stores, and the steps of the exchange stated so that each takes
what it uses and hands on what it leaves.
-/
module

public import proofs.«01_k».proof.Proof.Memory

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## The result block -/

section Out
variable (c : Dev nD)

/-- Column half `h` of the result block. -/
def getO (h : Fin 2) (f : Vec F S1024x2048 .f32) : Vec F S1024x1024 .f32 := oM.view.readAt (Elt F) (halfR h).toLoadRect f
/-- The result block with column half `h` replaced. -/
def putO (h : Fin 2) (f : Vec F S1024x2048 .f32) (w : Vec F S1024x1024 .f32) : Vec F S1024x2048 .f32 :=
  (oM.access (halfR h)).write (Elt F) f w Finset.univ

/-- The rows of its own `x` that the device's part needs. -/
def ownX : Vec F S1024x1024 .fp8e4m3 := xM.view.readAt (Elt F) (ownRowsR c).toLoadRect (xstg m c)

abbrev oneR : Rect S1 := Rect.unit (s := S1) ![0] S1.size inb_S1_S1_0
def oneIdx : S1.Idx := Shape.Idx.first (numel1_S1.symm ▸ Nat.one_pos)
/-- The two scales, each read as the one element of its array. -/
def scalesX : Vec F S1 .f32 := sxM.view.readAt (Elt F) oneR.toLoadRect (sxstg m c)
def scalesW : Vec F S1 .f32 := swM.view.readAt (Elt F) oneR.toLoadRect (swstg m c)
def scaleX : F .f32 := scalesX m c oneIdx
def scaleW : F .f32 := scalesW m c oneIdx

/-- The device's own product, -/
def out0 : Vec F S1024x2048 .f32 := k0_pay6 (ownX m c) (wstg m c)
/-- then with the first and third peers' products added to one half, -/
def out1 : Vec F S1024x2048 .f32 := putO 0 (out0 m c)
  (k0_pay9 (k0_pay7 (gotX m c 0)) (k0_pay8 (gotX m c 2)) (gotW m c 0 0) (gotW m c 2 0) (getO 0 (out0 m c)))
/-- and to the other, -/
def out2 : Vec F S1024x2048 .f32 := putO 1 (out1 m c)
  (k0_pay10 (k0_pay7 (gotX m c 0)) (k0_pay8 (gotX m c 2)) (gotW m c 0 1) (gotW m c 2 1) (getO 1 (out1 m c)))
/-- then with the second peer's product added to one half and that half scaled, -/
def out3 : Vec F S1024x2048 .f32 := putO 0 (out2 m c)
  (k0_pay12 (k0_pay11 (gotX m c 1)) (gotW m c 1 0) (getO 0 (out2 m c)) (scaleX m c) (scaleW m c))
/-- and the other. -/
def out4 : Vec F S1024x2048 .f32 := putO 1 (out3 m c)
  (k0_pay13 (k0_pay11 (gotX m c 1)) (gotW m c 1 1) (getO 1 (out3 m c)) (scaleX m c) (scaleW m c))

end Out

def oPts (c : Dev nD) (f : Vec F S1024x2048 .f32) : sProp 𝕄 := (c : Thread nD τ).loc cc0_stg4_0 ↦{fullShare} f
def sxPts (c : Dev nD) : sProp 𝕄 := (c : Thread nD τ).loc cc0_stg2_0 ↦{fullShare} sxstg m c
def swPts (c : Dev nD) : sProp 𝕄 := (c : Thread nD τ).loc cc0_stg3_0 ↦{fullShare} swstg m c

section Steps
variable (c : Dev nD) {α : Type}

theorem load_o {Q : α → sProp 𝕄} (h : Fin 2) (f : Vec F S1024x2048 .f32) {hl : oM.view.LoadsAt (halfR h).toLoadRect}
    {k : Vec F S1024x1024 .f32 → Prog (TpuEff nD τ sig (Elt F) Λ₀ .tc) α} :
    oPts c f ⊢ iprop((oPts c f -∗ runs c (k (getO h f)) Q) -∗ runs c (.op (.load oM (halfR h).toLoadRect hl) k) Q) :=
  wp_load 𝒱₀ (c : Thread nD τ) none Set.univ (m := oM) (Finset.subset_univ _)

theorem store_o {Q : α → sProp 𝕄} (h : Fin 2) (f : Vec F S1024x2048 .f32) {w : Vec F S1024x1024 .f32}
    {hx : (oM.access (halfR h)).Stores Finset.univ} {hm : (Finset.univ : Finset (halfR h).shape.Idx) = Finset.univ ∨ ∀ a, (halfR h).stride a = 1}
    {k : PUnit → Prog (TpuEff nD τ sig (Elt F) Λ₀ .tc) α} :
    oPts c f ⊢ iprop((oPts c (putO h f w) -∗ runs c (k ⟨⟩) Q) -∗ runs c (.op (.store oM (halfR h) w Finset.univ hx hm) k) Q) :=
  wp_store 𝒱₀ (c : Thread nD τ) none Set.univ (m := oM) (r := halfR h) (Mk := Finset.univ) (Finset.subset_univ _)

/-- The first store replaces the whole block, after a load nothing uses. -/
theorem fill_o {Q : α → sProp 𝕄} (f : Vec F S1024x2048 .f32) {w : Vec F S1024x2048 .f32}
    {inb : ∀ a, (![0, 0] : Fin 2 → Nat) a + S1024x2048.size a ≤ S1024x2048.size a}
    {hl : oM.view.LoadsAt (Rect.unit (s := S1024x2048) ![0, 0] S1024x2048.size inb).toLoadRect}
    {hx : (oM.access (Rect.unit (s := S1024x2048) ![0, 0] S1024x2048.size inb)).Stores Finset.univ}
    {hm : (Finset.univ : Finset (Rect.unit (s := S1024x2048) ![0, 0] S1024x2048.size inb).shape.Idx) = Finset.univ
      ∨ ∀ a, (Rect.unit (s := S1024x2048) ![0, 0] S1024x2048.size inb).stride a = 1}
    {k : PUnit → Prog (TpuEff nD τ sig (Elt F) Λ₀ .tc) α} :
    oPts c f ⊢ iprop((oPts c w -∗ runs c (k ⟨⟩) Q)
      -∗ runs c (.op (.load oM (Rect.unit (s := S1024x2048) ![0, 0] S1024x2048.size inb).toLoadRect hl) fun _ =>
        .op (.store oM (Rect.unit (s := S1024x2048) ![0, 0] S1024x2048.size inb) w Finset.univ hx hm) k) Q) := by
  have e : (oM.access (Rect.unit (s := S1024x2048) ![0, 0] S1024x2048.size inb)).write (Elt F) f w Finset.univ = w :=
    Memref.write_access_unit_zero_univ (Elt F) cc0_stg4_0 (off := ![0, 0]) (by funext a; fin_cases a <;> rfl) inb f w
  iintro H Hk
  unfold oPts
  iapply (wp_load 𝒱₀ (c : Thread nD τ) none Set.univ (m := oM) (Finset.subset_univ _)) $$ H
  iintro H
  iapply (wp_store 𝒱₀ (c : Thread nD τ) none Set.univ (m := oM) (r := Rect.unit (s := S1024x2048) ![0, 0] S1024x2048.size inb) (Mk := Finset.univ) (Finset.subset_univ _)) $$ H
  iintro H
  rw [e]
  iapply Hk; iexact H

theorem load_own {Q : α → sProp 𝕄} {hl : xM.view.LoadsAt (ownRowsR c).toLoadRect}
    {k : Vec F S1024x1024 .fp8e4m3 → Prog (TpuEff nD τ sig (Elt F) Λ₀ .tc) α} :
    xPts m c ⊢ iprop((xPts m c -∗ runs c (k (ownX m c)) Q) -∗ runs c (.op (.load xM (ownRowsR c).toLoadRect hl) k) Q) :=
  wp_load 𝒱₀ (c : Thread nD τ) none Set.univ (m := xM) (Finset.subset_univ _)

theorem load_w {Q : α → sProp 𝕄} {inb : ∀ a, (![0, 0] : Fin 2 → Nat) a + S1024x2048.size a ≤ S1024x2048.size a}
    {hl : wM.view.LoadsAt (Rect.unit (s := S1024x2048) ![0, 0] S1024x2048.size inb).toLoadRect}
    {k : Vec F S1024x2048 .fp8e5m2 → Prog (TpuEff nD τ sig (Elt F) Λ₀ .tc) α} :
    wPts m c ⊢ iprop((wPts m c -∗ runs c (k (wstg m c)) Q)
      -∗ runs c (.op (.load wM (Rect.unit (s := S1024x2048) ![0, 0] S1024x2048.size inb).toLoadRect hl) k) Q) := by
  have e : wM.view.readAt (Elt F) (Rect.unit (s := S1024x2048) ![0, 0] S1024x2048.size inb).toLoadRect (wstg m c) = wstg m c :=
    Memref.readAt_unit_zero (Elt F) cc0_stg1_0 (off := ![0, 0]) (by funext a; fin_cases a <;> rfl) inb _
  iintro H Hk
  unfold wPts
  iapply (wp_load 𝒱₀ (c : Thread nD τ) none Set.univ (m := wM) (Finset.subset_univ _)) $$ H
  iintro H
  rw [e]
  iapply Hk; iexact H

theorem load_sx {Q : α → sProp 𝕄} {hl : sxM.view.LoadsAt oneR.toLoadRect}
    {k : Vec F S1 .f32 → Prog (TpuEff nD τ sig (Elt F) Λ₀ .tc) α} :
    sxPts m c ⊢ iprop((sxPts m c -∗ runs c (k (scalesX m c)) Q) -∗ runs c (.op (.load sxM oneR.toLoadRect hl) k) Q) :=
  wp_load 𝒱₀ (c : Thread nD τ) none Set.univ (m := sxM) (Finset.subset_univ _)

theorem load_sw {Q : α → sProp 𝕄} {hl : swM.view.LoadsAt oneR.toLoadRect}
    {k : Vec F S1 .f32 → Prog (TpuEff nD τ sig (Elt F) Λ₀ .tc) α} :
    swPts m c ⊢ iprop((swPts m c -∗ runs c (k (scalesW m c)) Q) -∗ runs c (.op (.load swM oneR.toLoadRect hl) k) Q) :=
  wp_load 𝒱₀ (c : Thread nD τ) none Set.univ (m := swM) (Finset.subset_univ _)

end Steps

/-! ## The exchange's steps, each taking what it uses -/

section Curried
variable (c : Dev nD) {α : Type}

theorem signal {Q : α → sProp 𝕄} {kt : PUnit → Prog (TpuEff nD τ sig (Elt F) Λ₀ .tc) α} (n : Dev nD) (j : Fin 3) (hn : n = peer c j)
    (l : List (Dev nD × Cell)) :
    records m K ⊢ iprop(ow c ((peer c j, none) :: l) -∗ dutyTok ER (kcell (peer c j, none)) 0 (rev j)
        -∗ rxFree c j 0 -∗ rxFree c j 1 -∗ rxFree c j 2 -∗ (ow c l -∗ runs c (kt ⟨⟩) Q)
          -∗ runs c (.op (.semSignal (n : Thread nD τ) barS 1) kt) Q) := by
  iintro #Hr HO Ht H0 H1 H2
  iapply (step_signal m K c n j hn l (k := kt) (Q := Q))
  isplitr; · iexact Hr
  isplitl [HO]; · iexact HO
  isplitl [Ht]; · iexact Ht
  isplitl [H0]; · iexact H0
  isplitl [H1]; · iexact H1
  iexact H2

theorem await {Q : α → sProp 𝕄} {kt : PUnit → Prog (TpuEff nD τ sig (Elt F) Λ₀ .tc) α} (i : Bool × Fin 3 × Item)
    {sp sp' : Space} {s s' : Shape} {e e' : EltTy} {q : DmaSem sig}
    {src : Memref sig .tc sp' s' e'} {dst : Memref sig .tc sp s e} (hq : SemLoc.dma q = csem (some i)) (hN : dst.view.dmaCredit = N)
    {hsrc : src.view.WordExact} {hdst : dst.view.WordExact}
    (l : List (Dev nD × Cell)) (hl : ∀ y ∈ l, rank (some (some i)) < rank (some y.2)) :
    records m K ⊢ iprop(levAts L lv -∗ pend c (some i) -∗ ow c l
      -∗ ((ow c l ∗ done c (some i) ∗ got m c (some i)) -∗ runs c (kt ⟨⟩) Q) -∗ runs c (.op (.waitDma2 q src dst hsrc hdst) kt) Q) := by
  iintro #Hr #Hl Hp HO
  iapply (wait_dma m K c i hq hN l hl (kt := kt) (Q := Q))
  isplitr; · iexact Hr
  isplitr; · iexact Hl
  isplitl [Hp]; · iexact Hp
  iexact HO

theorem post_x {Q : α → sProp 𝕄} {kt : PUnit → Prog (TpuEff nD τ sig (Elt F) Λ₀ .tc) α} (n : Dev nD) (j : Fin 3) (hn : n = peer c j) {src dst : Memref sig .tc .vmem S1024x1024 .fp8e4m3}
    (hs : src = txx j) (hd : dst = rxx (rev j)) {sS sR : SemLoc sig} (h1 : sS = csem (sendC j 0)) (h2 : sR = csem (recvC (rev j) 0))
    {hsc : dst.view.ref.isScScratch = false} {hsrc : src.view.WordExact} {hdst : dst.view.WordExact}
    {hsem : DmaTarget.Typed .vmem sR (.remote (Dev.tc n : Thread nD τ) dst sS hsc)} (l : List (Dev nD × Cell)) :
    records m K ⊢ iprop(sendPay m c j 0 -∗ rxFree (peer c j) (rev j) 0 -∗ ow c (arrival c j 0 :: l) -∗ kit c j 0
      -∗ ((pend c (sendC j 0) ∗ ow c l) -∗ runs c (kt ⟨⟩) Q)
          -∗ runs c (.op (.enqueueDma src (.remote (Dev.tc n : Thread nD τ) dst sS hsc) sR hsrc hdst hsem) kt) Q) := by
  iintro #Hr Hs Hf HO Hk
  iapply (send_x m K c n j hn hs hd h1 h2 l (kt := kt) (Q := Q))
  isplitr; · iexact Hr
  isplitl [Hs]; · iexact Hs
  isplitl [Hf]; · iexact Hf
  isplitl [HO]; · iexact HO
  iexact Hk

theorem post_w0 {Q : α → sProp 𝕄} {kt : PUnit → Prog (TpuEff nD τ sig (Elt F) Λ₀ .tc) α} (n : Dev nD) (j : Fin 3) (hn : n = peer c j) {src dst : Memref sig .tc .vmem S1024x1024 .fp8e5m2}
    (hs : src = txw 0) (hd : dst = rxw (rev j) 0) {sS sR : SemLoc sig} (h1 : sS = csem (sendC j 1)) (h2 : sR = csem (recvC (rev j) 1))
    {hsc : dst.view.ref.isScScratch = false} {hsrc : src.view.WordExact} {hdst : dst.view.WordExact}
    {hsem : DmaTarget.Typed .vmem sR (.remote (Dev.tc n : Thread nD τ) dst sS hsc)} (l : List (Dev nD × Cell)) :
    records m K ⊢ iprop(sendPay m c j 1 -∗ rxFree (peer c j) (rev j) 1 -∗ ow c (arrival c j 1 :: l) -∗ kit c j 1
      -∗ ((pend c (sendC j 1) ∗ ow c l) -∗ runs c (kt ⟨⟩) Q)
          -∗ runs c (.op (.enqueueDma src (.remote (Dev.tc n : Thread nD τ) dst sS hsc) sR hsrc hdst hsem) kt) Q) := by
  iintro #Hr Hs Hf HO Hk
  iapply (send_w0 m K c n j hn hs hd h1 h2 l (kt := kt) (Q := Q))
  isplitr; · iexact Hr
  isplitl [Hs]; · iexact Hs
  isplitl [Hf]; · iexact Hf
  isplitl [HO]; · iexact HO
  iexact Hk

theorem post_w1 {Q : α → sProp 𝕄} {kt : PUnit → Prog (TpuEff nD τ sig (Elt F) Λ₀ .tc) α} (n : Dev nD) (j : Fin 3) (hn : n = peer c j) {src dst : Memref sig .tc .vmem S1024x1024 .fp8e5m2}
    (hs : src = txw 1) (hd : dst = rxw (rev j) 1) {sS sR : SemLoc sig} (h1 : sS = csem (sendC j 2)) (h2 : sR = csem (recvC (rev j) 2))
    {hsc : dst.view.ref.isScScratch = false} {hsrc : src.view.WordExact} {hdst : dst.view.WordExact}
    {hsem : DmaTarget.Typed .vmem sR (.remote (Dev.tc n : Thread nD τ) dst sS hsc)} (l : List (Dev nD × Cell)) :
    records m K ⊢ iprop(sendPay m c j 2 -∗ rxFree (peer c j) (rev j) 2 -∗ ow c (arrival c j 2 :: l) -∗ kit c j 2
      -∗ ((pend c (sendC j 2) ∗ ow c l) -∗ runs c (kt ⟨⟩) Q)
          -∗ runs c (.op (.enqueueDma src (.remote (Dev.tc n : Thread nD τ) dst sS hsc) sR hsrc hdst hsem) kt) Q) := by
  iintro #Hr Hs Hf HO Hk
  iapply (send_w1 m K c n j hn hs hd h1 h2 l (kt := kt) (Q := Q))
  isplitr; · iexact Hr
  isplitl [Hs]; · iexact Hs
  isplitl [Hf]; · iexact Hf
  isplitl [HO]; · iexact HO
  iexact Hk

end Curried

end Cert.Exchange

end
-- ==== Proof.Parts.lean ====
/-
# The kernel's body, part by part

The kernel's body at a device `c` none of the statements fixes: each part is run over the pieces it touches, handing
them on to the parts after it.
-/
module

public import proofs.«01_k».proof.Proof.Moves

@[expose] public section

set_option maxRecDepth 20000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- A part of the kernel's body at this launch's buffers and semaphores. -/
abbrev onBufs {β : Type 1} (p : ∀ (a0 : Memref sig .tc .vmem S4096x1024 .fp8e4m3), a0.IsWhole → ∀ (a1 : Memref sig .tc .vmem S1024x2048 .fp8e5m2), a1.IsWhole →
    ∀ (a2 : Memref sig .tc .smem S1 .f32), a2.IsWhole → ∀ (a3 : Memref sig .tc .smem S1 .f32), a3.IsWhole →
    ∀ (a4 : Memref sig .tc .vmem S1024x2048 .f32), a4.IsWhole → ∀ (a5 : Memref sig .tc .vmem S3x1024x1024 .fp8e4m3), a5.IsWhole →
    ∀ (a6 : Memref sig .tc .vmem S1024x2048 .fp8e5m2), a6.IsWhole → ∀ (a7 : Memref sig .tc .vmem S3x1024x1024 .fp8e4m3), a7.IsWhole →
    ∀ (a8 : Memref sig .tc .vmem S3x1024x2048 .fp8e5m2), a8.IsWhole → DmaSems sig S3 → DmaSems sig S3x2 → DmaSems sig S3 → DmaSems sig S3x2 → β) : β :=
  p xM (Memref.isWhole_whole _) wM (Memref.isWhole_whole _) sxM (Memref.isWhole_whole _) swM (Memref.isWhole_whole _) oM (Memref.isWhole_whole _)
    txxM (Memref.isWhole_whole _) txwM (Memref.isWhole_whole _) rxxM (Memref.isWhole_whole _) rxwM (Memref.isWhole_whole _)
    cc0_scratch4 cc0_scratch5 cc0_scratch6 cc0_scratch7

/-! ## Which peer each signal and transfer goes to -/

section Devices
variable (c : Dev nD)
theorem to1 : (⟨k0_dev1 c, k0_dev1_lt c⟩ : Dev nD) = peer c 0 := Fin.ext (k0_dev1_eq c)
theorem to2 : (⟨k0_dev2 c, k0_dev2_lt c⟩ : Dev nD) = peer c 1 := Fin.ext (k0_dev2_eq c)
theorem to3 : (⟨k0_dev3 c, k0_dev3_lt c⟩ : Dev nD) = peer c 2 := Fin.ext (k0_dev3_eq c)
theorem to4 : (⟨k0_dev4 c, k0_dev4_lt c⟩ : Dev nD) = peer c 0 := Fin.ext (k0_dev4_eq c)
theorem to5 : (⟨k0_dev5 c, k0_dev5_lt c⟩ : Dev nD) = peer c 2 := Fin.ext (k0_dev5_eq c)
theorem to6 : (⟨k0_dev6 c, k0_dev6_lt c⟩ : Dev nD) = peer c 0 := Fin.ext (k0_dev6_eq c)
theorem to7 : (⟨k0_dev7 c, k0_dev7_lt c⟩ : Dev nD) = peer c 2 := Fin.ext (k0_dev7_eq c)
theorem to8 : (⟨k0_dev8 c, k0_dev8_lt c⟩ : Dev nD) = peer c 0 := Fin.ext (k0_dev8_eq c)
theorem to9 : (⟨k0_dev9 c, k0_dev9_lt c⟩ : Dev nD) = peer c 2 := Fin.ext (k0_dev9_eq c)
theorem to10 : (⟨k0_dev10 c, k0_dev10_lt c⟩ : Dev nD) = peer c 1 := Fin.ext (k0_dev10_eq c)
theorem to11 : (⟨k0_dev11 c, k0_dev11_lt c⟩ : Dev nD) = peer c 1 := Fin.ext (k0_dev11_eq c)
theorem to12 : (⟨k0_dev12 c, k0_dev12_lt c⟩ : Dev nD) = peer c 1 := Fin.ext (k0_dev12_eq c)
end Devices

section Parts
variable (c : Dev nD) {β : Type}

/-- The wait for a send: what was lent comes back. -/
theorem await_send {Q : β → sProp 𝕄} {kt : PUnit → Prog (TpuEff nD τ sig (Elt F) Λ₀ .tc) β} (j : Fin 3) (k : Item)
    {sp sp' : Space} {s s' : Shape} {e e' : EltTy} {q : DmaSem sig}
    {src : Memref sig .tc sp' s' e'} {dst : Memref sig .tc sp s e} (hq : SemLoc.dma q = csem (sendC j k)) (hN : dst.view.dmaCredit = N)
    {hsrc : src.view.WordExact} {hdst : dst.view.WordExact}
    (l : List (Dev nD × Cell)) (hl : ∀ y ∈ l, rank (some (sendC j k)) < rank (some y.2)) :
    records m K ⊢ iprop(levAts L lv -∗ pend c (sendC j k) -∗ ow c l
      -∗ ((ow c l ∗ done c (sendC j k) ∗ sendPay m c j k) -∗ runs c (kt ⟨⟩) Q) -∗ runs c (.op (.waitDma2 q src dst hsrc hdst) kt) Q) :=
  await m K c (false, j, k) hq hN l hl

/-- The wait for an arrival. -/
theorem await_recv {Q : β → sProp 𝕄} {kt : PUnit → Prog (TpuEff nD τ sig (Elt F) Λ₀ .tc) β} (s : Fin 3) (k : Item)
    {sp sp' : Space} {sh sh' : Shape} {e e' : EltTy} {q : DmaSem sig}
    {src : Memref sig .tc sp' sh' e'} {dst : Memref sig .tc sp sh e} (hq : SemLoc.dma q = csem (recvC s k)) (hN : dst.view.dmaCredit = N)
    {hsrc : src.view.WordExact} {hdst : dst.view.WordExact} :
    records m K ⊢ iprop(levAts L lv -∗ pend c (recvC s k) -∗ ow c []
      -∗ ((ow c [] ∗ done c (recvC s k) ∗ recvPay m c s k) -∗ runs c (kt ⟨⟩) Q) -∗ runs c (.op (.waitDma2 q src dst hsrc hdst) kt) Q) :=
  await m K c (true, s, k) hq hN [] (by intro y hy; cases hy)

/-- What two sends borrow of a half of `w` makes the whole that the third borrows. -/
theorem whole_w0 : iprop(sendPay m c 0 1 ∗ sendPay m c 2 1) ⊢ sendPay m c 1 1 := whole_txw m c 0
theorem whole_w1 : iprop(sendPay m c 0 2 ∗ sendPay m c 2 2) ⊢ sendPay m c 1 2 := whole_txw m c 1

theorem fill_w0 {Q : β → sProp 𝕄} {w : Vec F S1024x1024 .fp8e5m2} (hw : w = sentW m c 0)
    {hl : txwM.view.LoadsAt (halfR 0).toLoadRect} {hx : (txwM.access (halfR 0)).Stores Finset.univ}
    {hm : (Finset.univ : Finset (halfR 0).shape.Idx) = Finset.univ ∨ ∀ a, (halfR 0).stride a = 1}
    {k : PUnit → Prog (TpuEff nD τ sig (Elt F) Λ₀ .tc) β} :
    free c (txw 0) ⊢ iprop(((sendPay m c 0 1 ∗ sendPay m c 2 1) -∗ runs c (k ⟨⟩) Q)
      -∗ runs c (.op (.load txwM (halfR 0).toLoadRect hl) fun _ => .op (.store txwM (halfR 0) w Finset.univ hx hm) k) Q) :=
  fill_txw m c 0 hw
theorem fill_w1 {Q : β → sProp 𝕄} {w : Vec F S1024x1024 .fp8e5m2} (hw : w = sentW m c 1)
    {hl : txwM.view.LoadsAt (halfR 1).toLoadRect} {hx : (txwM.access (halfR 1)).Stores Finset.univ}
    {hm : (Finset.univ : Finset (halfR 1).shape.Idx) = Finset.univ ∨ ∀ a, (halfR 1).stride a = 1}
    {k : PUnit → Prog (TpuEff nD τ sig (Elt F) Λ₀ .tc) β} :
    free c (txw 1) ⊢ iprop(((sendPay m c 0 2 ∗ sendPay m c 2 2) -∗ runs c (k ⟨⟩) Q)
      -∗ runs c (.op (.load txwM (halfR 1).toLoadRect hl) fun _ => .op (.store txwM (halfR 1) w Finset.univ hx hm) k) Q) :=
  fill_txw m c 1 hw

/-- The arrivals still to be started when the first two peers' are all under way. -/
abbrev late (c : Dev nD) : List (Dev nD × Cell) := [arrival c 1 0, arrival c 1 1, arrival c 1 2]
theorem late_above (j : Fin 3) (k : Item) : ∀ y ∈ late c, rank (some (sendC j k)) < rank (some y.2) := by
  intro y hy; fin_cases hy <;> exact Nat.two_pos

/-- The words the first part computes from the device's number and hands to the others. -/
abbrev word (c : Dev nD) : BitVec 32 := Scalar.remsi (Scalar.divsi (Dev.word c) 1#32) 4#32

/-- The signals to the three peers, the wait for theirs, and the first peer's rows put in their send slot. -/
theorem part1 {Q : β → sProp 𝕄} {k : (Σ' (d0 : Dev nD) (v2 : BitVec 32) (v25 : BitVec 32), BitVec 32) → Prog (TpuEff nD τ sig (Elt F) Λ₀ .tc) β} :
    iprop(records m K ∗ levAts L lv ∗ ow c (debts c) ∗ pend c none
      ∗ (dutyTok ER (kcell (peer c 0, none)) 0 (rev 0) ∗ dutyTok ER (kcell (peer c 1, none)) 0 (rev 1) ∗ dutyTok ER (kcell (peer c 2, none)) 0 (rev 2))
      ∗ (rxFree c 0 0 ∗ rxFree c 0 1 ∗ rxFree c 0 2) ∗ (rxFree c 1 0 ∗ rxFree c 1 1 ∗ rxFree c 1 2) ∗ (rxFree c 2 0 ∗ rxFree c 2 1 ∗ rxFree c 2 2)
      ∗ xPts m c ∗ free c (txx 0))
      ⊢ iprop(((ow c (sends c) ∗ done c none ∗ barPay c 0 ∗ barPay c 1 ∗ barPay c 2 ∗ xPts m c ∗ sendPay m c 0 0)
          -∗ runs c (k ⟨c, word c, Scalar.addi (word c) 1#32, 4#32⟩) Q)
        -∗ runs c (onBufs (k0_part1 (F := F)) >>= k) Q) := by
  rw [k0_part1_eq_skeleton]
  unfold onBufs k0_part1_skel
  simp only [semSignalWord, semWaitWord, Prog.lift, Prog.bind_op, Prog.bind_ret, Prog.pure_eq_ret, wp_deviceId]
  iintro ⟨#Hr, #Hl, HO, Hp, ⟨T0, T1, T2⟩, ⟨A0, A1, A2⟩, ⟨B0, B1, B2⟩, ⟨C0, C1, C2⟩, Hx, Hs⟩ Hk
  iapply (signal m K c _ 0 (to1 c) _) $$ Hr HO T0 A0 A1 A2
  iintro HO
  iapply (signal m K c _ 1 (to2 c) _) $$ Hr HO T1 B0 B1 B2
  iintro HO
  iapply (signal m K c _ 2 (to3 c) _) $$ Hr HO T2 C0 C1 C2
  iintro HO
  iapply (wait_bar m K c) $$ [HO Hp]
  · isplitr; · iexact Hr
    isplitr; · iexact Hl
    isplitl [Hp]; · iexact Hp
    iexact HO
  iintro ⟨HO, D, P0, P1, P2⟩
  iapply (load_rows m c 0 rfl) $$ Hx
  iintro Hx
  iapply (fill_txx m c 0 (by unfold k0_pay1; rw [shapeCast_self])) $$ Hs
  iintro Hs
  iapply Hk
  isplitl [HO]; · iexact HO
  isplitl [D]; · iexact D
  isplitl [P0]; · iexact P0
  isplitl [P1]; · iexact P1
  isplitl [P2]; · iexact P2
  isplitl [Hx]; · iexact Hx
  iexact Hs

/-- The first peer's rows sent, the third peer's put in their send slot. -/
theorem part2 {Q : β → sProp 𝕄} {v a b : BitVec 32} {l : List (Dev nD × Cell)} {k : PUnit → Prog (TpuEff nD τ sig (Elt F) Λ₀ .tc) β} :
    iprop(records m K ∗ levAts L lv ∗ ow c (arrival c 0 0 :: l) ∗ sendPay m c 0 0 ∗ rxFree (peer c 0) (rev 0) 0 ∗ kit c 0 0 ∗ xPts m c ∗ free c (txx 2))
      ⊢ iprop(((ow c l ∗ pend c (sendC 0 0) ∗ xPts m c ∗ sendPay m c 2 0)
          -∗ runs c (k ⟨⟩) Q)
        -∗ runs c (onBufs (k0_part2 (F := F)) c v a b >>= k) Q) := by
  rw [k0_part2_eq_skeleton]
  unfold onBufs k0_part2_skel
  simp only [smemLoad, smemLoadElt, Prog.lift, Prog.bind_op, Prog.bind_ret, Prog.pure_eq_ret]
  iintro ⟨#Hr, #Hl, HO, S, Fr, Kt, Hx, T⟩ Hk
  iapply (post_x m K c _ 0 (to4 c) rfl rfl rfl rfl _) $$ Hr S Fr HO Kt
  iintro ⟨Pd, HO⟩
  iapply (load_rows m c 2 rfl) $$ Hx
  iintro Hx
  iapply (fill_txx m c 2 (by unfold k0_pay2; rw [shapeCast_self])) $$ T
  iintro T
  iapply Hk
  isplitl [HO]; · iexact HO
  isplitl [Pd]; · iexact Pd
  isplitl [Hx]; · iexact Hx
  iexact T

/-- The third peer's rows sent; the first half of `w` put in its send buffer, and sent to the first peer. -/
theorem part3 {Q : β → sProp 𝕄} {v : BitVec 32} {l : List (Dev nD × Cell)} {k : PUnit → Prog (TpuEff nD τ sig (Elt F) Λ₀ .tc) β} :
    iprop(records m K ∗ levAts L lv ∗ ow c (arrival c 2 0 :: arrival c 0 1 :: l) ∗ sendPay m c 2 0 ∗ rxFree (peer c 2) (rev 2) 0 ∗ kit c 2 0 ∗ wPts m c ∗ free c (txw 0) ∗ rxFree (peer c 0) (rev 0) 1 ∗ kit c 0 1)
      ⊢ iprop(((ow c l ∗ pend c (sendC 2 0) ∗ pend c (sendC 0 1) ∗ wPts m c ∗ sendPay m c 2 1)
          -∗ runs c (k ⟨⟩) Q)
        -∗ runs c (onBufs (k0_part3 (F := F)) c v >>= k) Q) := by
  rw [k0_part3_eq_skeleton]
  unfold onBufs k0_part3_skel
  simp only [smemLoad, smemLoadElt, Prog.lift, Prog.bind_op, Prog.bind_ret, Prog.pure_eq_ret]
  iintro ⟨#Hr, #Hl, HO, S, Fr, Kt, Hw, T, Fr', Kt'⟩ Hk
  iapply (post_x m K c _ 2 (to5 c) rfl rfl rfl rfl _) $$ Hr S Fr HO Kt
  iintro ⟨Pd, HO⟩
  iapply (load_half m c 0) $$ Hw
  iintro Hw
  iapply (fill_w0 m c (by unfold k0_pay3; simp only [shapeCast_self])) $$ T
  iintro ⟨T, T'⟩
  iapply (post_w0 m K c _ 0 (to6 c) rfl rfl rfl rfl _) $$ Hr T Fr' HO Kt'
  iintro ⟨Pd', HO⟩
  iapply Hk
  isplitl [HO]; · iexact HO
  isplitl [Pd]; · iexact Pd
  isplitl [Pd']; · iexact Pd'
  isplitl [Hw]; · iexact Hw
  iexact T'

/-- The first half of `w` sent to the third peer; the second put in its send buffer, and sent to the first peer. -/
theorem part4 {Q : β → sProp 𝕄} {v : BitVec 32} {l : List (Dev nD × Cell)} {k : PUnit → Prog (TpuEff nD τ sig (Elt F) Λ₀ .tc) β} :
    iprop(records m K ∗ levAts L lv ∗ ow c (arrival c 2 1 :: arrival c 0 2 :: l) ∗ sendPay m c 2 1 ∗ rxFree (peer c 2) (rev 2) 1 ∗ kit c 2 1 ∗ wPts m c ∗ free c (txw 1) ∗ rxFree (peer c 0) (rev 0) 2 ∗ kit c 0 2)
      ⊢ iprop(((ow c l ∗ pend c (sendC 2 1) ∗ pend c (sendC 0 2) ∗ wPts m c ∗ sendPay m c 2 2)
          -∗ runs c (k ⟨⟩) Q)
        -∗ runs c (onBufs (k0_part4 (F := F)) c v >>= k) Q) := by
  rw [k0_part4_eq_skeleton]
  unfold onBufs k0_part4_skel
  simp only [smemLoad, smemLoadElt, Prog.lift, Prog.bind_op, Prog.bind_ret, Prog.pure_eq_ret]
  iintro ⟨#Hr, #Hl, HO, S, Fr, Kt, Hw, T, Fr', Kt'⟩ Hk
  iapply (post_w0 m K c _ 2 (to7 c) rfl rfl rfl rfl _) $$ Hr S Fr HO Kt
  iintro ⟨Pd, HO⟩
  iapply (load_half m c 1) $$ Hw
  iintro Hw
  iapply (fill_w1 m c (by unfold k0_pay4; simp only [shapeCast_self])) $$ T
  iintro ⟨T, T'⟩
  iapply (post_w1 m K c _ 0 (to8 c) rfl rfl rfl rfl _) $$ Hr T Fr' HO Kt'
  iintro ⟨Pd', HO⟩
  iapply Hk
  isplitl [HO]; · iexact HO
  isplitl [Pd]; · iexact Pd
  isplitl [Pd']; · iexact Pd'
  isplitl [Hw]; · iexact Hw
  iexact T'

/-- The second half sent to the third peer; the second peer's rows put in their send slot; the device's own product stored; the
    first send waited for. -/
theorem part5 {Q : β → sProp 𝕄} {v : BitVec 32} {f : Vec F S1024x2048 .f32} {k : PUnit → Prog (TpuEff nD τ sig (Elt F) Λ₀ .tc) β} :
    iprop(records m K ∗ levAts L lv ∗ ow c (arrival c 2 2 :: late c) ∗ sendPay m c 2 2 ∗ rxFree (peer c 2) (rev 2) 2 ∗ kit c 2 2 ∗ xPts m c ∗ free c (txx 1) ∗ wPts m c ∗ oPts c f ∗ pend c (sendC 0 0))
      ⊢ iprop(((ow c (late c) ∗ pend c (sendC 2 2) ∗ xPts m c ∗ sendPay m c 1 0 ∗ wPts m c ∗ oPts c (out0 m c) ∗ done c (sendC 0 0) ∗ sendPay m c 0 0)
          -∗ runs c (k ⟨⟩) Q)
        -∗ runs c (onBufs (k0_part5 (F := F)) c v >>= k) Q) := by
  rw [k0_part5_eq_skeleton]
  unfold onBufs k0_part5_skel
  simp only [smemLoad, smemLoadElt, Prog.lift, Prog.bind_op, Prog.bind_ret, Prog.pure_eq_ret]
  iintro ⟨#Hr, #Hl, HO, S, Fr, Kt, Hx, T, Hw, Ho, P⟩ Hk
  iapply (post_w1 m K c _ 2 (to9 c) rfl rfl rfl rfl _) $$ Hr S Fr HO Kt
  iintro ⟨Pd, HO⟩
  iapply (load_rows m c 1 rfl) $$ Hx
  iintro Hx
  iapply (fill_txx m c 1 (by unfold k0_pay5; rw [shapeCast_self])) $$ T
  iintro T
  iapply (load_own m c) $$ Hx
  iintro Hx
  iapply (load_w m c) $$ Hw
  iintro Hw
  iapply (fill_o c f) $$ Ho
  iintro Ho
  iapply (await_send m K c 0 0 rfl (credit_txx 0) _ (late_above c _ _)) $$ Hr Hl P HO
  iintro ⟨HO, D, S⟩
  iapply Hk
  isplitl [HO]; · iexact HO
  isplitl [Pd]; · iexact Pd
  isplitl [Hx]; · iexact Hx
  isplitl [T]; · iexact T
  isplitl [Hw]; · iexact Hw
  isplitl [Ho]; · iexact Ho
  isplitl [D]; · iexact D
  iexact S

/-- Four more sends waited for. -/
theorem part6 {Q : β → sProp 𝕄} {k : PUnit → Prog (TpuEff nD τ sig (Elt F) Λ₀ .tc) β} :
    iprop(records m K ∗ levAts L lv ∗ ow c (late c) ∗ pend c (sendC 2 0) ∗ pend c (sendC 0 1) ∗ pend c (sendC 2 1) ∗ pend c (sendC 0 2))
      ⊢ iprop(((ow c (late c) ∗ done c (sendC 2 0) ∗ sendPay m c 2 0 ∗ done c (sendC 0 1) ∗ sendPay m c 0 1 ∗ done c (sendC 2 1) ∗ sendPay m c 2 1 ∗ done c (sendC 0 2) ∗ sendPay m c 0 2)
          -∗ runs c (k ⟨⟩) Q)
        -∗ runs c (onBufs (k0_part6 (F := F)) >>= k) Q) := by
  rw [k0_part6_eq_skeleton]
  unfold onBufs k0_part6_skel
  simp only [smemLoad, smemLoadElt, Prog.lift, Prog.bind_op, Prog.bind_ret, Prog.pure_eq_ret]
  iintro ⟨#Hr, #Hl, HO, P0, P1, P2, P3⟩ Hk
  iapply (await_send m K c 2 0 rfl (credit_txx 2) _ (late_above c _ _)) $$ Hr Hl P0 HO
  iintro ⟨HO, D0, S0⟩
  iapply (await_send m K c 0 1 rfl (credit_txw 0) _ (late_above c _ _)) $$ Hr Hl P1 HO
  iintro ⟨HO, D1, S1⟩
  iapply (await_send m K c 2 1 rfl (credit_txw 0) _ (late_above c _ _)) $$ Hr Hl P2 HO
  iintro ⟨HO, D2, S2⟩
  iapply (await_send m K c 0 2 rfl (credit_txw 1) _ (late_above c _ _)) $$ Hr Hl P3 HO
  iintro ⟨HO, D3, S3⟩
  iapply Hk
  isplitl [HO]; · iexact HO
  isplitl [D0]; · iexact D0
  isplitl [S0]; · iexact S0
  isplitl [D1]; · iexact D1
  isplitl [S1]; · iexact S1
  isplitl [D2]; · iexact D2
  isplitl [S2]; · iexact S2
  isplitl [D3]; · iexact D3
  iexact S3

/-- The last of the six, and the second peer's rows sent. -/
theorem part7 {Q : β → sProp 𝕄} {v : BitVec 32} {l : List (Dev nD × Cell)} (hl : ∀ y ∈ arrival c 1 0 :: l, rank (some (sendC 2 2)) < rank (some y.2)) {k : PUnit → Prog (TpuEff nD τ sig (Elt F) Λ₀ .tc) β} :
    iprop(records m K ∗ levAts L lv ∗ ow c (arrival c 1 0 :: l) ∗ pend c (sendC 2 2) ∗ sendPay m c 1 0 ∗ rxFree (peer c 1) (rev 1) 0 ∗ kit c 1 0)
      ⊢ iprop(((ow c l ∗ done c (sendC 2 2) ∗ sendPay m c 2 2 ∗ pend c (sendC 1 0))
          -∗ runs c (k ⟨⟩) Q)
        -∗ runs c (onBufs (k0_part7 (F := F)) c v >>= k) Q) := by
  rw [k0_part7_eq_skeleton]
  unfold onBufs k0_part7_skel
  simp only [smemLoad, smemLoadElt, Prog.lift, Prog.bind_op, Prog.bind_ret, Prog.pure_eq_ret]
  iintro ⟨#Hr, #Hl, HO, P, S, Fr, Kt⟩ Hk
  iapply (await_send m K c 2 2 rfl (credit_txw 1) _ hl) $$ Hr Hl P HO
  iintro ⟨HO, D, S'⟩
  iapply (post_x m K c _ 1 (to10 c) rfl rfl rfl rfl _) $$ Hr S Fr HO Kt
  iintro ⟨Pd, HO⟩
  iapply Hk
  isplitl [HO]; · iexact HO
  isplitl [D]; · iexact D
  isplitl [S']; · iexact S'
  iexact Pd

/-- Both halves of `w` sent to the second peer; the first arrival waited for. -/
theorem part8 {Q : β → sProp 𝕄} {v : BitVec 32} {k : PUnit → Prog (TpuEff nD τ sig (Elt F) Λ₀ .tc) β} :
    iprop(records m K ∗ levAts L lv ∗ ow c [arrival c 1 1, arrival c 1 2] ∗ sendPay m c 1 1 ∗ rxFree (peer c 1) (rev 1) 1 ∗ kit c 1 1 ∗ sendPay m c 1 2 ∗ rxFree (peer c 1) (rev 1) 2 ∗ kit c 1 2 ∗ pend c (recvC 0 0))
      ⊢ iprop(((ow c [] ∗ pend c (sendC 1 1) ∗ pend c (sendC 1 2) ∗ done c (recvC 0 0) ∗ recvPay m c 0 0)
          -∗ runs c (k ⟨⟩) Q)
        -∗ runs c (onBufs (k0_part8 (F := F)) c v >>= k) Q) := by
  rw [k0_part8_eq_skeleton]
  unfold onBufs k0_part8_skel
  simp only [smemLoad, smemLoadElt, Prog.lift, Prog.bind_op, Prog.bind_ret, Prog.pure_eq_ret]
  iintro ⟨#Hr, #Hl, HO, S, Fr, Kt, S', Fr', Kt', P⟩ Hk
  iapply (post_w0 m K c _ 1 (to11 c) rfl rfl rfl rfl _) $$ Hr S Fr HO Kt
  iintro ⟨Pd, HO⟩
  iapply (post_w1 m K c _ 1 (to12 c) rfl rfl rfl rfl _) $$ Hr S' Fr' HO Kt'
  iintro ⟨Pd', HO⟩
  iapply (await_recv m K c 0 0 rfl (credit_rxx 0)) $$ Hr Hl P HO
  iintro ⟨HO, D, R⟩
  iapply Hk
  isplitl [HO]; · iexact HO
  isplitl [Pd]; · iexact Pd
  isplitl [Pd']; · iexact Pd'
  isplitl [D]; · iexact D
  iexact R

/-- The first and third slots' rows, and the first halves of `w` there. -/
theorem part9 {Q : β → sProp 𝕄} {v : BitVec 32} {k : (Σ' (_ : FVec F S1024x1024 .bf16), FVec F S1024x1024 .bf16) → Prog (TpuEff nD τ sig (Elt F) Λ₀ .tc) β} :
    iprop(records m K ∗ levAts L lv ∗ ow c [] ∗ recvPay m c 0 0 ∗ pend c (recvC 2 0) ∗ pend c (recvC 0 1) ∗ pend c (recvC 2 1))
      ⊢ iprop(((ow c [] ∗ recvPay m c 0 0 ∗ done c (recvC 2 0) ∗ recvPay m c 2 0 ∗ done c (recvC 0 1) ∗ recvPay m c 0 1 ∗ done c (recvC 2 1) ∗ recvPay m c 2 1)
          -∗ runs c (k ⟨k0_pay7 (gotX m c 0), k0_pay8 (gotX m c 2)⟩) Q)
        -∗ runs c (onBufs (k0_part9 (F := F)) v >>= k) Q) := by
  rw [k0_part9_eq_skeleton]
  unfold onBufs k0_part9_skel
  simp only [smemLoad, smemLoadElt, Prog.lift, Prog.bind_op, Prog.bind_ret, Prog.pure_eq_ret]
  iintro ⟨#Hr, #Hl, HO, R0, P2, P0', P2'⟩ Hk
  iapply (await_recv m K c 2 0 rfl (credit_rxx 2)) $$ Hr Hl P2 HO
  iintro ⟨HO, D2, R2⟩
  iapply (load_rxx m c 0) $$ R0
  iintro R0
  iapply (load_rxx m c 2) $$ R2
  iintro R2
  iapply (await_recv m K c 0 1 rfl (credit_rxw 0 0)) $$ Hr Hl P0' HO
  iintro ⟨HO, D0', R0'⟩
  iapply (await_recv m K c 2 1 rfl (credit_rxw 2 0)) $$ Hr Hl P2' HO
  iintro ⟨HO, D2', R2'⟩
  iapply Hk
  isplitl [HO]; · iexact HO
  isplitl [R0]; · iexact R0
  isplitl [D2]; · iexact D2
  isplitl [R2]; · iexact R2
  isplitl [D0']; · iexact D0'
  isplitl [R0']; · iexact R0'
  isplitl [D2']; · iexact D2'
  iexact R2'

/-- Their products added to the first half of the result. -/
theorem part10 {Q : β → sProp 𝕄} {v : BitVec 32} {k : PUnit → Prog (TpuEff nD τ sig (Elt F) Λ₀ .tc) β} :
    iprop(records m K ∗ levAts L lv ∗ ow c [] ∗ recvPay m c 0 1 ∗ recvPay m c 2 1 ∗ oPts c (out0 m c) ∗ pend c (recvC 0 2))
      ⊢ iprop(((ow c [] ∗ recvPay m c 0 1 ∗ recvPay m c 2 1 ∗ oPts c (out1 m c) ∗ done c (recvC 0 2) ∗ recvPay m c 0 2)
          -∗ runs c (k ⟨⟩) Q)
        -∗ runs c (onBufs (k0_part10 (F := F)) v (k0_pay7 (gotX m c 0)) (k0_pay8 (gotX m c 2)) >>= k) Q) := by
  rw [k0_part10_eq_skeleton]
  unfold onBufs k0_part10_skel
  simp only [smemLoad, smemLoadElt, Prog.lift, Prog.bind_op, Prog.bind_ret, Prog.pure_eq_ret]
  iintro ⟨#Hr, #Hl, HO, R0, R2, Ho, P⟩ Hk
  iapply (load_rxw0 m c 0) $$ R0
  iintro R0
  iapply (load_rxw0 m c 2) $$ R2
  iintro R2
  iapply (load_o c 0 _) $$ Ho
  iintro Ho
  iapply (load_o c 0 _) $$ Ho
  iintro Ho
  iapply (store_o c 0 _) $$ Ho
  iintro Ho
  iapply (await_recv m K c 0 2 rfl (credit_rxw 0 1)) $$ Hr Hl P HO
  iintro ⟨HO, D, R⟩
  iapply Hk
  isplitl [HO]; · iexact HO
  isplitl [R0]; · iexact R0
  isplitl [R2]; · iexact R2
  isplitl [Ho]; · iexact Ho
  isplitl [D]; · iexact D
  iexact R

/-- The second halves likewise; then the second slot's rows. -/
theorem part11 {Q : β → sProp 𝕄} {v : BitVec 32} {k : FVec F S1024x1024 .bf16 → Prog (TpuEff nD τ sig (Elt F) Λ₀ .tc) β} :
    iprop(records m K ∗ levAts L lv ∗ ow c [] ∗ pend c (recvC 2 2) ∗ recvPay m c 0 2 ∗ oPts c (out1 m c) ∗ pend c (recvC 1 0))
      ⊢ iprop(((ow c [] ∗ done c (recvC 2 2) ∗ recvPay m c 2 2 ∗ recvPay m c 0 2 ∗ oPts c (out2 m c) ∗ done c (recvC 1 0) ∗ recvPay m c 1 0)
          -∗ runs c (k (k0_pay11 (gotX m c 1))) Q)
        -∗ runs c (onBufs (k0_part11 (F := F)) v (k0_pay7 (gotX m c 0)) (k0_pay8 (gotX m c 2)) >>= k) Q) := by
  rw [k0_part11_eq_skeleton]
  unfold onBufs k0_part11_skel
  simp only [smemLoad, smemLoadElt, Prog.lift, Prog.bind_op, Prog.bind_ret, Prog.pure_eq_ret]
  iintro ⟨#Hr, #Hl, HO, P2, R0, Ho, P1⟩ Hk
  iapply (await_recv m K c 2 2 rfl (credit_rxw 2 1)) $$ Hr Hl P2 HO
  iintro ⟨HO, D2, R2⟩
  iapply (load_rxw1 m c 0) $$ R0
  iintro R0
  iapply (load_rxw1 m c 2) $$ R2
  iintro R2
  iapply (load_o c 1 _) $$ Ho
  iintro Ho
  iapply (load_o c 1 _) $$ Ho
  iintro Ho
  iapply (store_o c 1 _) $$ Ho
  iintro Ho
  iapply (await_recv m K c 1 0 rfl (credit_rxx 1)) $$ Hr Hl P1 HO
  iintro ⟨HO, D1, R1⟩
  iapply (load_rxx m c 1) $$ R1
  iintro R1
  iapply Hk
  isplitl [HO]; · iexact HO
  isplitl [D2]; · iexact D2
  isplitl [R2]; · iexact R2
  isplitl [R0]; · iexact R0
  isplitl [Ho]; · iexact Ho
  isplitl [D1]; · iexact D1
  iexact R1

/-- The second peer's product added to the first half of the result, and that half scaled. -/
theorem part12 {Q : β → sProp 𝕄} {v : BitVec 32} {k : PUnit → Prog (TpuEff nD τ sig (Elt F) Λ₀ .tc) β} :
    iprop(records m K ∗ levAts L lv ∗ ow c [] ∗ pend c (recvC 1 1) ∗ oPts c (out2 m c) ∗ sxPts m c ∗ swPts m c)
      ⊢ iprop(((ow c [] ∗ done c (recvC 1 1) ∗ recvPay m c 1 1 ∗ oPts c (out3 m c) ∗ sxPts m c ∗ swPts m c)
          -∗ runs c (k ⟨⟩) Q)
        -∗ runs c (onBufs (k0_part12 (F := F)) v (k0_pay11 (gotX m c 1)) >>= k) Q) := by
  rw [k0_part12_eq_skeleton]
  unfold onBufs k0_part12_skel
  simp only [smemLoad, smemLoadElt, Prog.lift, Prog.bind_op, Prog.bind_ret, Prog.pure_eq_ret]
  iintro ⟨#Hr, #Hl, HO, P, Ho, Hsx, Hsw⟩ Hk
  iapply (await_recv m K c 1 1 rfl (credit_rxw 1 0)) $$ Hr Hl P HO
  iintro ⟨HO, D, R⟩
  iapply (load_rxw0 m c 1) $$ R
  iintro R
  iapply (load_o c 0 _) $$ Ho
  iintro Ho
  iapply (load_sx m c) $$ Hsx
  iintro Hsx
  iapply (load_sw m c) $$ Hsw
  iintro Hsw
  iapply (load_o c 0 _) $$ Ho
  iintro Ho
  iapply (store_o c 0 _) $$ Ho
  iintro Ho
  iapply Hk
  isplitl [HO]; · iexact HO
  isplitl [D]; · iexact D
  isplitl [R]; · iexact R
  isplitl [Ho]; · iexact Ho
  isplitl [Hsx]; · iexact Hsx
  iexact Hsw

/-- The second half likewise; two of the last three sends waited for. -/
theorem part13 {Q : β → sProp 𝕄} {k : PUnit → Prog (TpuEff nD τ sig (Elt F) Λ₀ .tc) β} :
    iprop(records m K ∗ levAts L lv ∗ ow c [] ∗ pend c (recvC 1 2) ∗ oPts c (out3 m c) ∗ sxPts m c ∗ swPts m c ∗ pend c (sendC 1 0) ∗ pend c (sendC 1 1))
      ⊢ iprop(((ow c [] ∗ done c (recvC 1 2) ∗ recvPay m c 1 2 ∗ oPts c (out4 m c) ∗ sxPts m c ∗ swPts m c ∗ done c (sendC 1 0) ∗ sendPay m c 1 0 ∗ done c (sendC 1 1) ∗ sendPay m c 1 1)
          -∗ runs c (k ⟨⟩) Q)
        -∗ runs c (onBufs (k0_part13 (F := F)) (k0_pay11 (gotX m c 1)) >>= k) Q) := by
  rw [k0_part13_eq_skeleton]
  unfold onBufs k0_part13_skel
  simp only [smemLoad, smemLoadElt, Prog.lift, Prog.bind_op, Prog.bind_ret, Prog.pure_eq_ret]
  iintro ⟨#Hr, #Hl, HO, P, Ho, Hsx, Hsw, P0, P1⟩ Hk
  iapply (await_recv m K c 1 2 rfl (credit_rxw 1 1)) $$ Hr Hl P HO
  iintro ⟨HO, D, R⟩
  iapply (load_rxw1 m c 1) $$ R
  iintro R
  iapply (load_o c 1 _) $$ Ho
  iintro Ho
  iapply (load_sx m c) $$ Hsx
  iintro Hsx
  iapply (load_sw m c) $$ Hsw
  iintro Hsw
  iapply (load_o c 1 _) $$ Ho
  iintro Ho
  iapply (store_o c 1 _) $$ Ho
  iintro Ho
  iapply (await_send m K c 1 0 rfl (credit_txx 1) _ (by intro y hy; cases hy)) $$ Hr Hl P0 HO
  iintro ⟨HO, D0, S0⟩
  iapply (await_send m K c 1 1 rfl (credit_txw 0) _ (by intro y hy; cases hy)) $$ Hr Hl P1 HO
  iintro ⟨HO, D1, S1⟩
  iapply Hk
  isplitl [HO]; · iexact HO
  isplitl [D]; · iexact D
  isplitl [R]; · iexact R
  isplitl [Ho]; · iexact Ho
  isplitl [Hsx]; · iexact Hsx
  isplitl [Hsw]; · iexact Hsw
  isplitl [D0]; · iexact D0
  isplitl [S0]; · iexact S0
  isplitl [D1]; · iexact D1
  iexact S1

end Parts

end Cert.Exchange

end
-- ==== Proof.Body.lean ====
/-
# The whole body of the kernel on one device

The parts one after another. Before the body the device holds its debts to the others, the tokens for what it signals and
sends, the waits it will make, its scratch memory in pieces, and the staged blocks; after it, every semaphore is at zero
again, nothing is owed, the pieces are back, and the result block is the device's part of the product.
-/
module

public import proofs.«01_k».proof.Proof.Parts

@[expose] public section

set_option maxRecDepth 20000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

section Body
variable (c : Dev nD)

/-- The tokens for the units the device gives its peers' barriers. -/
abbrev units (c : Dev nD) : sProp 𝕄 :=
  iprop(dutyTok ER (kcell (peer c 0, none)) 0 (rev 0) ∗ dutyTok ER (kcell (peer c 1, none)) 0 (rev 1) ∗ dutyTok ER (kcell (peer c 2, none)) 0 (rev 2))
/-- What the device's nine transfers need, by peer and item. -/
abbrev kits (c : Dev nD) : sProp 𝕄 :=
  iprop((kit c 0 0 ∗ kit c 0 1 ∗ kit c 0 2) ∗ (kit c 1 0 ∗ kit c 1 1 ∗ kit c 1 2) ∗ (kit c 2 0 ∗ kit c 2 1 ∗ kit c 2 2))
/-- The waits for the nine arrivals. -/
abbrev arrivals (c : Dev nD) : sProp 𝕄 :=
  iprop((pend c (recvC 0 0) ∗ pend c (recvC 0 1) ∗ pend c (recvC 0 2)) ∗ (pend c (recvC 1 0) ∗ pend c (recvC 1 1) ∗ pend c (recvC 1 2)) ∗ (pend c (recvC 2 0) ∗ pend c (recvC 2 1) ∗ pend c (recvC 2 2)))
/-- The receive slots, by slot and item. -/
abbrev slots (c : Dev nD) : sProp 𝕄 :=
  iprop((rxFree c 0 0 ∗ rxFree c 0 1 ∗ rxFree c 0 2) ∗ (rxFree c 1 0 ∗ rxFree c 1 1 ∗ rxFree c 1 2) ∗ (rxFree c 2 0 ∗ rxFree c 2 1 ∗ rxFree c 2 2))
/-- The send buffers in pieces. -/
abbrev sendBufs (c : Dev nD) : sProp 𝕄 := iprop((free c (txx 0) ∗ free c (txx 1) ∗ free c (txx 2)) ∗ free c (txw 0) ∗ free c (txw 1))
/-- The staged inputs. -/
abbrev staged (c : Dev nD) : sProp 𝕄 := iprop(xPts m c ∗ wPts m c ∗ sxPts m c ∗ swPts m c)
/-- Every semaphore of the exchange at zero. -/
abbrev allDone (c : Dev nD) : sProp 𝕄 :=
  iprop(done c none ∗ ((done c (sendC 0 0) ∗ done c (sendC 0 1) ∗ done c (sendC 0 2)) ∗ (done c (sendC 1 0) ∗ done c (sendC 1 1) ∗ done c (sendC 1 2)) ∗ (done c (sendC 2 0) ∗ done c (sendC 2 1) ∗ done c (sendC 2 2))) ∗ ((done c (recvC 0 0) ∗ done c (recvC 0 1) ∗ done c (recvC 0 2)) ∗ (done c (recvC 1 0) ∗ done c (recvC 1 1) ∗ done c (recvC 1 2)) ∗ (done c (recvC 2 0) ∗ done c (recvC 2 1) ∗ done c (recvC 2 2))))
/-- The send buffers as the sends leave them. -/
abbrev sentBufs (c : Dev nD) : sProp 𝕄 :=
  iprop((sendPay m c 0 0 ∗ sendPay m c 1 0 ∗ sendPay m c 2 0) ∗ sendPay m c 1 1 ∗ sendPay m c 1 2)
/-- The receive slots as the arrivals leave them. -/
abbrev filled (c : Dev nD) : sProp 𝕄 :=
  iprop((recvPay m c 0 0 ∗ recvPay m c 0 1 ∗ recvPay m c 0 2) ∗ (recvPay m c 1 0 ∗ recvPay m c 1 1 ∗ recvPay m c 1 2) ∗ (recvPay m c 2 0 ∗ recvPay m c 2 1 ∗ recvPay m c 2 2))

theorem body_runs (f : Vec F S1024x2048 .f32) {Q : PUnit → sProp 𝕄} :
    iprop(records m K ∗ levAts L lv ∗ ow c (debts c) ∗ pend c none ∗ units c ∗ kits c ∗ arrivals c ∗ slots c ∗ sendBufs c ∗ staged m c ∗ oPts c f)
      ⊢ iprop(((ow c [] ∗ allDone c ∗ sentBufs m c ∗ filled m c ∗ staged m c ∗ oPts c (out4 m c)) -∗ Q ⟨⟩)
        -∗ runs c (onBufs (cc0_body (F := F))) Q) := by
  rw [cc0_body_eq_skeleton]
  unfold onBufs cc0_body_skel
  iintro ⟨#Hr, #Hl, HO, Pb, U, ⟨⟨K00, K01, K02⟩, ⟨K10, K11, K12⟩, ⟨K20, K21, K22⟩⟩, ⟨⟨P00, P01, P02⟩, ⟨P10, P11, P12⟩, ⟨P20, P21, P22⟩⟩, ⟨⟨Z00, Z01, Z02⟩, ⟨Z10, Z11, Z12⟩, ⟨Z20, Z21, Z22⟩⟩, ⟨⟨X0, X1, X2⟩, W0, W1⟩, ⟨Hx, Hw, Hsx, Hsw⟩, Ho⟩ Hk
  iapply (part1 m K c) $$ [HO Pb U Z00 Z01 Z02 Z10 Z11 Z12 Z20 Z21 Z22 Hx X0]
  · isplitr; · iexact Hr
    isplitr; · iexact Hl
    isplitl [HO]; · iexact HO
    isplitl [Pb]; · iexact Pb
    isplitl [U]; · iexact U
    isplitl [Z00 Z01 Z02]
    · isplitl [Z00]; · iexact Z00
      isplitl [Z01]; · iexact Z01
      iexact Z02
    isplitl [Z10 Z11 Z12]
    · isplitl [Z10]; · iexact Z10
      isplitl [Z11]; · iexact Z11
      iexact Z12
    isplitl [Z20 Z21 Z22]
    · isplitl [Z20]; · iexact Z20
      isplitl [Z21]; · iexact Z21
      iexact Z22
    isplitl [Hx]; · iexact Hx
    iexact X0
  iintro ⟨HO, Db, ⟨F00, F01, F02⟩, ⟨F10, F11, F12⟩, ⟨F20, F21, F22⟩, Hx, S00⟩
  dsimp only
  iapply (part2 m K c) $$ [HO S00 F00 K00 Hx X2]
  · isplitr; · iexact Hr
    isplitr; · iexact Hl
    isplitl [HO]; · iexact HO
    isplitl [S00]; · iexact S00
    isplitl [F00]; · iexact F00
    isplitl [K00]; · iexact K00
    isplitl [Hx]; · iexact Hx
    iexact X2
  iintro ⟨HO, Q00, Hx, S20⟩
  iapply (part3 m K c) $$ [HO S20 F20 K20 Hw W0 F01 K01]
  · isplitr; · iexact Hr
    isplitr; · iexact Hl
    isplitl [HO]; · iexact HO
    isplitl [S20]; · iexact S20
    isplitl [F20]; · iexact F20
    isplitl [K20]; · iexact K20
    isplitl [Hw]; · iexact Hw
    isplitl [W0]; · iexact W0
    isplitl [F01]; · iexact F01
    iexact K01
  iintro ⟨HO, Q20, Q01, Hw, S21⟩
  iapply (part4 m K c) $$ [HO S21 F21 K21 Hw W1 F02 K02]
  · isplitr; · iexact Hr
    isplitr; · iexact Hl
    isplitl [HO]; · iexact HO
    isplitl [S21]; · iexact S21
    isplitl [F21]; · iexact F21
    isplitl [K21]; · iexact K21
    isplitl [Hw]; · iexact Hw
    isplitl [W1]; · iexact W1
    isplitl [F02]; · iexact F02
    iexact K02
  iintro ⟨HO, Q21, Q02, Hw, S22⟩
  iapply (part5 m K c) $$ [HO S22 F22 K22 Hx X1 Hw Ho Q00]
  · isplitr; · iexact Hr
    isplitr; · iexact Hl
    isplitl [HO]; · iexact HO
    isplitl [S22]; · iexact S22
    isplitl [F22]; · iexact F22
    isplitl [K22]; · iexact K22
    isplitl [Hx]; · iexact Hx
    isplitl [X1]; · iexact X1
    isplitl [Hw]; · iexact Hw
    isplitl [Ho]; · iexact Ho
    iexact Q00
  iintro ⟨HO, Q22, Hx, S10, Hw, Ho, D00, S00⟩
  iapply (part6 m K c) $$ [HO Q20 Q01 Q21 Q02]
  · isplitr; · iexact Hr
    isplitr; · iexact Hl
    isplitl [HO]; · iexact HO
    isplitl [Q20]; · iexact Q20
    isplitl [Q01]; · iexact Q01
    isplitl [Q21]; · iexact Q21
    iexact Q02
  iintro ⟨HO, D20, S20, D01, S01, D21, S21, D02, S02⟩
  iapply (part7 m K c (late_above c 2 2)) $$ [HO Q22 S10 F10 K10]
  · isplitr; · iexact Hr
    isplitr; · iexact Hl
    isplitl [HO]; · iexact HO
    isplitl [Q22]; · iexact Q22
    isplitl [S10]; · iexact S10
    isplitl [F10]; · iexact F10
    iexact K10
  iintro ⟨HO, D22, S22, Q10⟩
  ihave S11 := (whole_w0 m c) $$ [S01 S21]
  · isplitl [S01]; · iexact S01
    iexact S21
  ihave S12 := (whole_w1 m c) $$ [S02 S22]
  · isplitl [S02]; · iexact S02
    iexact S22
  iapply (part8 m K c) $$ [HO S11 F11 K11 S12 F12 K12 P00]
  · isplitr; · iexact Hr
    isplitr; · iexact Hl
    isplitl [HO]; · iexact HO
    isplitl [S11]; · iexact S11
    isplitl [F11]; · iexact F11
    isplitl [K11]; · iexact K11
    isplitl [S12]; · iexact S12
    isplitl [F12]; · iexact F12
    isplitl [K12]; · iexact K12
    iexact P00
  iintro ⟨HO, Q11, Q12, E00, R00⟩
  iapply (part9 m K c) $$ [HO R00 P20 P01 P21]
  · isplitr; · iexact Hr
    isplitr; · iexact Hl
    isplitl [HO]; · iexact HO
    isplitl [R00]; · iexact R00
    isplitl [P20]; · iexact P20
    isplitl [P01]; · iexact P01
    iexact P21
  iintro ⟨HO, R00, E20, R20, E01, R01, E21, R21⟩
  dsimp only
  iapply (part10 m K c) $$ [HO R01 R21 Ho P02]
  · isplitr; · iexact Hr
    isplitr; · iexact Hl
    isplitl [HO]; · iexact HO
    isplitl [R01]; · iexact R01
    isplitl [R21]; · iexact R21
    isplitl [Ho]; · iexact Ho
    iexact P02
  iintro ⟨HO, R01, R21, Ho, E02, R02⟩
  iapply (part11 m K c) $$ [HO P22 R02 Ho P10]
  · isplitr; · iexact Hr
    isplitr; · iexact Hl
    isplitl [HO]; · iexact HO
    isplitl [P22]; · iexact P22
    isplitl [R02]; · iexact R02
    isplitl [Ho]; · iexact Ho
    iexact P10
  iintro ⟨HO, E22, R22, R02, Ho, E10, R10⟩
  iapply (part12 m K c) $$ [HO P11 Ho Hsx Hsw]
  · isplitr; · iexact Hr
    isplitr; · iexact Hl
    isplitl [HO]; · iexact HO
    isplitl [P11]; · iexact P11
    isplitl [Ho]; · iexact Ho
    isplitl [Hsx]; · iexact Hsx
    iexact Hsw
  iintro ⟨HO, E11, R11, Ho, Hsx, Hsw⟩
  iapply (part13 m K c) $$ [HO P12 Ho Hsx Hsw Q10 Q11]
  · isplitr; · iexact Hr
    isplitr; · iexact Hl
    isplitl [HO]; · iexact HO
    isplitl [P12]; · iexact P12
    isplitl [Ho]; · iexact Ho
    isplitl [Hsx]; · iexact Hsx
    isplitl [Hsw]; · iexact Hsw
    isplitl [Q10]; · iexact Q10
    iexact Q11
  iintro ⟨HO, E12, R12, Ho, Hsx, Hsw, D10, S10, D11, S11⟩
  simp only [Prog.lift, Prog.bind_op, Prog.bind_ret, Prog.pure_eq_ret]
  iapply (await_send m K c 1 2 rfl (credit_txw 1) _ (by intro y hy; cases hy)) $$ Hr Hl Q12 HO
  iintro ⟨HO, D12, S12⟩
  unfold runs; rw [wp_ret]; imodintro
  iapply Hk
  isplitl [HO]; · iexact HO
  isplitl [Db D00 D01 D02 D10 D11 D12 D20 D21 D22 E00 E01 E02 E10 E11 E12 E20 E21 E22]
  · isplitl [Db]; · iexact Db
    isplitl [D00 D01 D02 D10 D11 D12 D20 D21 D22]
    · isplitl [D00 D01 D02]
      · isplitl [D00]; · iexact D00
        isplitl [D01]; · iexact D01
        iexact D02
      isplitl [D10 D11 D12]
      · isplitl [D10]; · iexact D10
        isplitl [D11]; · iexact D11
        iexact D12
      isplitl [D20]; · iexact D20
      isplitl [D21]; · iexact D21
      iexact D22
    isplitl [E00 E01 E02]
    · isplitl [E00]; · iexact E00
      isplitl [E01]; · iexact E01
      iexact E02
    isplitl [E10 E11 E12]
    · isplitl [E10]; · iexact E10
      isplitl [E11]; · iexact E11
      iexact E12
    isplitl [E20]; · iexact E20
    isplitl [E21]; · iexact E21
    iexact E22
  isplitl [S00 S10 S20 S11 S12]
  · isplitl [S00 S10 S20]
    · isplitl [S00]; · iexact S00
      isplitl [S10]; · iexact S10
      iexact S20
    isplitl [S11]; · iexact S11
    iexact S12
  isplitl [R00 R01 R02 R10 R11 R12 R20 R21 R22]
  · isplitl [R00 R01 R02]
    · isplitl [R00]; · iexact R00
      isplitl [R01]; · iexact R01
      iexact R02
    isplitl [R10 R11 R12]
    · isplitl [R10]; · iexact R10
      isplitl [R11]; · iexact R11
      iexact R12
    isplitl [R20]; · iexact R20
    isplitl [R21]; · iexact R21
    iexact R22
  isplitl [Hx Hw Hsx Hsw]
  · isplitl [Hx]; · iexact Hx
    isplitl [Hw]; · iexact Hw
    isplitl [Hsx]; · iexact Hsx
    iexact Hsw
  iexact Ho

end Body

end Cert.Exchange

end
-- ==== Proof.Scratch.lean ====
/-
# The scratch buffers in pieces

A device's scratch buffers come to the kernel whole and are given back whole; in between they are held piece by piece.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cutting a buffer, and putting it together -/

section Cut
variable (c : Dev nD) {sh : Shape} {e : EltTy} (M : Memref sig .tc .vmem sh e) {T : Type} [Fintype T]
  (r : T → Rect sh) (hr : ∀ t a, (r t).stride a = 1)
  (hd : ∀ t t', t ≠ t' → Disjoint (r t).set (r t').set) (hcov : ∀ i, ∃ t, i ∈ (r t).set)

include hd in
theorem pieces_disjoint : ∀ t ∈ (Finset.univ : Finset T), ∀ t' ∈ (Finset.univ : Finset T), t ≠ t' →
    Disjoint (M.slice (r t) (hr t)).view.set (M.slice (r t') (hr t')).view.set := fun t _ t' _ h => by
  show Disjoint (M.view.slice (r t)).set (M.view.slice (r t')).set
  rw [View.set_slice, View.set_slice]; exact (Finset.disjoint_map _).mpr (hd t t' h)

include hcov in
theorem pieces_cover [DecidableEq (Idx (M.view.loc (c : Thread nD τ)))] : (Finset.univ : Finset T).biUnion (fun t => (M.slice (r t) (hr t)).view.set) = M.view.set := by
  ext i; constructor
  · intro hi
    obtain ⟨t, -, hi⟩ := Finset.mem_biUnion.mp hi
    exact View.set_slice_subset _ _ hi
  · intro hi
    rw [View.set, Finset.mem_map] at hi
    obtain ⟨x, -, rfl⟩ := hi
    obtain ⟨t, hx⟩ := hcov x
    refine Finset.mem_biUnion.mpr ⟨t, Finset.mem_univ _, ?_⟩
    show _ ∈ (M.view.slice (r t)).set
    rw [View.set_slice]; exact Finset.mem_map_of_mem _ hx

include hd hcov in
theorem cut : (free c M : sProp 𝕄) ⊢ bigSep Finset.univ fun t => free c (M.slice (r t) (hr t)) := by
  classical
  unfold free
  iintro ⟨%f, H⟩
  have h : (M.view.loc (c : Thread nD τ) ↦[M.view.set]{fullShare} f : sProp 𝕄)
      ⊢ bigSep Finset.univ fun t => iprop(∃ f, (M.slice (r t) (hr t)).view.loc (c : Thread nD τ) ↦[(M.slice (r t) (hr t)).view.set]{fullShare} f) := by
    rw [← pieces_cover c M r hr hcov]
    refine BIBase.Entails.trans (Entails.of_eq (pointsTo_biUnion Finset.univ _ (pieces_disjoint M r hr hd))) (bigSep_mono fun t _ => ?_)
    exact BIClass.exists_intro (Φ := fun f : Buf (Elt F) (M.view.loc (c : Thread nD τ)) => (M.view.loc (c : Thread nD τ) ↦[(M.slice (r t) (hr t)).view.set]{fullShare} f : sProp 𝕄)) f
  iapply h; iexact H

include hd hcov in
theorem mend [Inhabited T] : (bigSep Finset.univ fun t => free c (M.slice (r t) (hr t)) : sProp 𝕄) ⊢ free c M := by
  classical
  unfold free
  iintro H
  ihave H := (BI.bigSep_exists_pi Finset.univ (fun (t : T) (f : Buf (Elt F) (M.view.loc (c : Thread nD τ))) =>
    (M.view.loc (c : Thread nD τ) ↦[(M.slice (r t) (hr t)).view.set]{fullShare} f : sProp 𝕄))) $$ H
  icases H with ⟨%fs, H⟩
  ihave H := (pointsTo_biUnion_join Finset.univ (fun t => (M.slice (r t) (hr t)).view.set) fs (fs default) (pieces_disjoint M r hr hd)) $$ H
  icases H with ⟨%g, -, H⟩
  iexists g
  rw [← pieces_cover c M r hr hcov]
  iexact H

end Cut

/-! ## The families of pieces -/

theorem slot_mem {s : Fin 3} {i : S3x1024x1024.Idx} : i ∈ (slotR s).set ↔ (i 0 : ℕ) = s.val := by
  rw [Rect.mem_set_unit]
  have h1 : (i 1 : ℕ) < 1024 := (i 1).isLt
  have h2 : (i 2 : ℕ) < 1024 := (i 2).isLt
  constructor
  · intro h
    have h0 : s.val ≤ (i 0 : ℕ) ∧ (i 0 : ℕ) < s.val + 1 := h 0
    omega
  · intro h a
    fin_cases a
    · show s.val ≤ (i 0 : ℕ) ∧ (i 0 : ℕ) < s.val + 1; omega
    · show 0 ≤ (i 1 : ℕ) ∧ (i 1 : ℕ) < 0 + 1024; omega
    · show 0 ≤ (i 2 : ℕ) ∧ (i 2 : ℕ) < 0 + 1024; omega

theorem half_mem {h : Fin 2} {i : S1024x2048.Idx} : i ∈ (halfR h).set ↔ col h ≤ (i 1 : ℕ) ∧ (i 1 : ℕ) < col h + 1024 := by
  rw [Rect.mem_set_unit]
  have h0 : (i 0 : ℕ) < 1024 := (i 0).isLt
  constructor
  · intro h; exact h 1
  · intro h a
    fin_cases a
    · show 0 ≤ (i 0 : ℕ) ∧ (i 0 : ℕ) < 0 + 1024; omega
    · exact h

theorem slotHalf_mem {s : Fin 3} {h : Fin 2} {i : S3x1024x2048.Idx} :
    i ∈ (slotHalfR s h).set ↔ (i 0 : ℕ) = s.val ∧ col h ≤ (i 2 : ℕ) ∧ (i 2 : ℕ) < col h + 1024 := by
  rw [Rect.mem_set_unit]
  have h1 : (i 1 : ℕ) < 1024 := (i 1).isLt
  constructor
  · intro h
    have h0 : s.val ≤ (i 0 : ℕ) ∧ (i 0 : ℕ) < s.val + 1 := h 0
    exact ⟨by omega, h 2⟩
  · intro h a
    fin_cases a
    · show s.val ≤ (i 0 : ℕ) ∧ (i 0 : ℕ) < s.val + 1; omega
    · show 0 ≤ (i 1 : ℕ) ∧ (i 1 : ℕ) < 0 + 1024; omega
    · exact h.2

theorem col_ne {h h' : Fin 2} (hne : h ≠ h') {n : ℕ} (H : col h ≤ n ∧ n < col h + 1024) (H' : col h' ≤ n ∧ n < col h' + 1024) : False := by
  fin_cases h <;> fin_cases h' <;> first | exact hne rfl | (simp only [col, Matrix.cons_val_zero, Matrix.cons_val_one, Fin.mk_one, Fin.zero_eta, Matrix.cons_val_fin_one] at H H'; omega)

theorem col_of {n : ℕ} (hn : n < 2048) : ∃ h : Fin 2, col h ≤ n ∧ n < col h + 1024 := by
  by_cases h : n < 1024
  · exact ⟨0, Nat.zero_le _, by show n < 0 + 1024; omega⟩
  · exact ⟨1, by show 1024 ≤ n; omega, by show n < 1024 + 1024; omega⟩

theorem slots_disjoint (t t' : Fin 3) (h : t ≠ t') : Disjoint (slotR t).set (slotR t').set :=
  Finset.disjoint_left.mpr fun i hi hi' => h (Fin.ext ((slot_mem.mp hi).symm.trans (slot_mem.mp hi')))
theorem slots_cover (i : S3x1024x1024.Idx) : ∃ t, i ∈ (slotR t).set := ⟨i 0, slot_mem.mpr rfl⟩

theorem halves_disjoint (t t' : Fin 2) (h : t ≠ t') : Disjoint (halfR t).set (halfR t').set :=
  Finset.disjoint_left.mpr fun i hi hi' => col_ne h (half_mem.mp hi) (half_mem.mp hi')
theorem halves_cover (i : S1024x2048.Idx) : ∃ t, i ∈ (halfR t).set := by
  obtain ⟨h, hh⟩ := col_of (n := (i 1 : ℕ)) (i 1).isLt
  exact ⟨h, half_mem.mpr hh⟩

theorem slotHalves_disjoint (t t' : Fin 3 × Fin 2) (h : t ≠ t') : Disjoint (slotHalfR t.1 t.2).set (slotHalfR t'.1 t'.2).set :=
  Finset.disjoint_left.mpr fun i hi hi' => by
    have a := slotHalf_mem.mp hi
    have b := slotHalf_mem.mp hi'
    have e : t.1 = t'.1 := Fin.ext (a.1.symm.trans b.1)
    exact col_ne (fun e' => h (Prod.ext e e')) a.2 b.2
theorem slotHalves_cover (i : S3x1024x2048.Idx) : ∃ t : Fin 3 × Fin 2, i ∈ (slotHalfR t.1 t.2).set := by
  obtain ⟨h, hh⟩ := col_of (n := (i 2 : ℕ)) (i 2).isLt
  exact ⟨(i 0, h), slotHalf_mem.mpr ⟨rfl, hh⟩⟩

/-! ## The four scratch buffers -/

section Buffers
variable (c : Dev nD)

theorem bigSep_fin2 (Φ : Fin 2 → sProp 𝕄) : bigSep Finset.univ Φ = iprop(Φ 0 ∗ Φ 1) :=
  bigSep_univ_eq_bigSepL [0, 1] (by decide) (by decide) Φ

/-- The send buffer for the rows of `x`. -/
theorem txx_pieces : (free c txxM : sProp 𝕄) ⊢ iprop(free c (txx 0) ∗ free c (txx 1) ∗ free c (txx 2)) := by
  have h := cut (F := F) c txxM slotR (fun _ _ => rfl) slots_disjoint slots_cover
  rw [bigSep_fin3] at h
  rw [free_squeeze, free_squeeze, free_squeeze]
  exact h
theorem txx_whole : iprop(free c (txx 0) ∗ free c (txx 1) ∗ free c (txx 2)) ⊢ (free c txxM : sProp 𝕄) := by
  have h := mend (F := F) c txxM slotR (fun _ _ => rfl) slots_disjoint slots_cover
  rw [bigSep_fin3] at h
  rw [free_squeeze, free_squeeze, free_squeeze]
  exact h

/-- The send buffer for `w`. -/
theorem txw_pieces : (free c txwM : sProp 𝕄) ⊢ iprop(free c (txw 0) ∗ free c (txw 1)) := by
  have h := cut (F := F) c txwM halfR (fun _ _ => rfl) halves_disjoint halves_cover
  rw [bigSep_fin2] at h
  exact h
theorem txw_whole : iprop(free c (txw 0) ∗ free c (txw 1)) ⊢ (free c txwM : sProp 𝕄) := by
  have h := mend (F := F) c txwM halfR (fun _ _ => rfl) halves_disjoint halves_cover
  rw [bigSep_fin2] at h
  exact h

/-- The slots for the rows of `x`. -/
theorem rxx_pieces : (free c rxxM : sProp 𝕄) ⊢ iprop(rxFree c 0 0 ∗ rxFree c 1 0 ∗ rxFree c 2 0) := by
  have h := cut (F := F) c rxxM slotR (fun _ _ => rfl) slots_disjoint slots_cover
  rw [bigSep_fin3] at h
  unfold rxFree
  dsimp only
  rw [free_squeeze, free_squeeze, free_squeeze]
  exact h
theorem rxx_whole : iprop(rxFree c 0 0 ∗ rxFree c 1 0 ∗ rxFree c 2 0) ⊢ (free c rxxM : sProp 𝕄) := by
  have h := mend (F := F) c rxxM slotR (fun _ _ => rfl) slots_disjoint slots_cover
  rw [bigSep_fin3] at h
  unfold rxFree
  dsimp only
  rw [free_squeeze, free_squeeze, free_squeeze]
  exact h

theorem bigSep_six (Φ : Fin 3 × Fin 2 → sProp 𝕄) :
    bigSep Finset.univ Φ = iprop((Φ (0, 0) ∗ Φ (0, 1)) ∗ (Φ (1, 0) ∗ Φ (1, 1)) ∗ (Φ (2, 0) ∗ Φ (2, 1))) := by
  rw [bigSep_univ_prod, bigSep_fin3, bigSep_fin2, bigSep_fin2, bigSep_fin2]

/-- The slots for the halves of `w`. -/
theorem rxw_pieces : (free c rxwM : sProp 𝕄)
    ⊢ iprop((rxFree c 0 1 ∗ rxFree c 0 2) ∗ (rxFree c 1 1 ∗ rxFree c 1 2) ∗ (rxFree c 2 1 ∗ rxFree c 2 2)) := by
  have h := cut (F := F) c rxwM (fun t : Fin 3 × Fin 2 => slotHalfR t.1 t.2) (fun _ _ => rfl) slotHalves_disjoint slotHalves_cover
  rw [bigSep_six] at h
  simp only [rxFree, free_squeeze]
  exact h
theorem rxw_whole : iprop((rxFree c 0 1 ∗ rxFree c 0 2) ∗ (rxFree c 1 1 ∗ rxFree c 1 2) ∗ (rxFree c 2 1 ∗ rxFree c 2 2))
    ⊢ (free c rxwM : sProp 𝕄) := by
  have h := mend (F := F) c rxwM (fun t : Fin 3 × Fin 2 => slotHalfR t.1 t.2) (fun _ _ => rfl) slotHalves_disjoint slotHalves_cover
  rw [bigSep_six] at h
  simp only [rxFree, free_squeeze]
  exact h

/-- Owned at a known value is owned. -/
theorem owns_free {s : Shape} {e : EltTy} (p : Memref sig .tc .vmem s e) (X : s.Idx → Elt F e) :
    (owns (c : Thread nD τ) p fullShare X : sProp 𝕄) ⊢ free c p := by
  unfold owns free
  iintro ⟨%f, -, H⟩
  iexists f; iexact H

theorem recvPay_free (s : Fin 3) (k : Item) : recvPay m c s k ⊢ rxFree c s k := by
  fin_cases k
  · exact owns_free c (rxx s) _
  · exact owns_free c (rxw s 0) _
  · exact owns_free c (rxw s 1) _

end Buffers

/-- All four buffers, as the launch hands them over, are the pieces the body starts from, -/
theorem scratch_pieces (c : Dev nD) : (Pipeline.scopedRest cfg0.spec c : sProp 𝕄) ⊢ iprop(sendBufs c ∗ slots c) := by
  rw [scopedRest0_eq]
  iintro ⟨H0, H1, H2, H3⟩
  ihave H0 := (txx_pieces (F := F) c) $$ [H0]
  · unfold free; rw [Memref.view_whole, View.set_whole]; iexact H0
  ihave H1 := (txw_pieces (F := F) c) $$ [H1]
  · unfold free; rw [Memref.view_whole, View.set_whole]; iexact H1
  ihave H2 := (rxx_pieces (F := F) c) $$ [H2]
  · unfold free; rw [Memref.view_whole, View.set_whole]; iexact H2
  ihave H3 := (rxw_pieces (F := F) c) $$ [H3]
  · unfold free; rw [Memref.view_whole, View.set_whole]; iexact H3
  icases H0 with ⟨X0, X1, X2⟩
  icases H1 with ⟨W0, W1⟩
  icases H2 with ⟨A0, A1, A2⟩
  icases H3 with ⟨⟨B0, C0⟩, ⟨B1, C1⟩, B2, C2⟩
  isplitl [X0 X1 X2 W0 W1]
  · isplitl [X0 X1 X2]
    · isplitl [X0]; · iexact X0
      isplitl [X1]; · iexact X1
      iexact X2
    isplitl [W0]; · iexact W0
    iexact W1
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2]; · iexact A2
  isplitl [B2]; · iexact B2
  iexact C2

/-- and the pieces it ends with are the four buffers again. -/
theorem pieces_scratch (c : Dev nD) : iprop(sentBufs m c ∗ filled m c) ⊢ (Pipeline.scopedRest cfg0.spec c : sProp 𝕄) := by
  rw [scopedRest0_eq]
  iintro ⟨⟨⟨X0, X1, X2⟩, W0, W1⟩, ⟨A0, B0, C0⟩, ⟨A1, B1, C1⟩, A2, B2, C2⟩
  ihave H0 := (txx_whole (F := F) c) $$ [X0 X1 X2]
  · isplitl [X0]; · iapply (show sendPay m c 0 0 ⊢ free c (txx 0) from owns_free c (txx 0) _); iexact X0
    isplitl [X1]; · iapply (show sendPay m c 1 0 ⊢ free c (txx 1) from owns_free c (txx 1) _); iexact X1
    iapply (show sendPay m c 2 0 ⊢ free c (txx 2) from owns_free c (txx 2) _); iexact X2
  ihave H1 := (txw_whole (F := F) c) $$ [W0 W1]
  · isplitl [W0]; · iapply (show sendPay m c 1 1 ⊢ free c (txw 0) from owns_free c (txw 0) _); iexact W0
    iapply (show sendPay m c 1 2 ⊢ free c (txw 1) from owns_free c (txw 1) _); iexact W1
  ihave H2 := (rxx_whole (F := F) c) $$ [A0 A1 A2]
  · isplitl [A0]; · iapply (recvPay_free m c 0 0); iexact A0
    isplitl [A1]; · iapply (recvPay_free m c 1 0); iexact A1
    iapply (recvPay_free m c 2 0); iexact A2
  ihave H3 := (rxw_whole (F := F) c) $$ [B0 C0 B1 C1 B2 C2]
  · isplitl [B0 C0]
    · isplitl [B0]; · iapply (recvPay_free m c 0 1); iexact B0
      iapply (recvPay_free m c 0 2); iexact C0
    isplitl [B1 C1]
    · isplitl [B1]; · iapply (recvPay_free m c 1 1); iexact B1
      iapply (recvPay_free m c 1 2); iexact C1
    isplitl [B2]; · iapply (recvPay_free m c 2 1); iexact B2
    iapply (recvPay_free m c 2 2); iexact C2
  isplitl [H0]; · unfold free; rw [Memref.view_whole, View.set_whole]; iexact H0
  isplitl [H1]; · unfold free; rw [Memref.view_whole, View.set_whole]; iexact H1
  isplitl [H2]; · unfold free; rw [Memref.view_whole, View.set_whole]; iexact H2
  unfold free; rw [Memref.view_whole, View.set_whole]; iexact H3

end Cert.Exchange

end
-- ==== Proof.Data.lean ====
/-
# What a device holds before and after its kernel

The kernel runs once on each device. Before, a device has its bundles of the exchange and its scratch buffers; after, every
semaphore is at zero and the result's staging buffer holds what the body computes.
-/
module

public import proofs.«01_k».proof.Proof.Scratch
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's part of the exchange at the start: what all know, what it may wait for, what it pays with. -/
def start (c : Dev nD) : sProp 𝕄 :=
  iprop(∃ K : Dev nD × Cell → ℕ, records m K ∗ levAts L lv ∗ pend c none ∗ units c ∗ kits c ∗ arrivals c)

/-- Before and after the one point. -/
def Φ₀ (c : Dev nD) : sProp 𝕄 := iprop(start m c ∗ sendBufs c ∗ slots c)
def Φ₁ (c : Dev nD) : sProp 𝕄 := iprop(Pipeline.scopedRest cfg0.spec c ∗ allDone c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => out4 m c
  Φ t := match t with
    | ⟨0, _⟩ => Φ₀ m c
    | ⟨_ + 1, _⟩ => Φ₁ c
  q _ := fullShare
  owed t := match t with
    | ⟨0, _⟩ => owe (debts c)
    | ⟨_ + 1, _⟩ => 0

/-! ## The staging buffers -/

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- Staging buffer `b` holds `X`. -/
abbrev held (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem held_intro (c : Dev nD) (b : Ref sig .tc) (X : b.ty.Contents (Elt F)) : ((c : Thread nD τ).loc b ↦{fullShare} X : sProp 𝕄) ⊢ held c b X := by
  iintro H
  iexists _; isplitr; · (ipureintro; rfl)
  iexact H

theorem before_x (c : Dev nD) (d) : (dats m 0 c).before (0 : Fin 5) t0_0 d = xstg m c := by unfold Dat.before; rw [if_pos (fetch0_0 t0_0)]; rfl
theorem before_w (c : Dev nD) (d) : (dats m 0 c).before (1 : Fin 5) t0_0 d = wstg m c := by unfold Dat.before; rw [if_pos (fetch0_1 t0_0)]; rfl
theorem before_sx (c : Dev nD) (d) : (dats m 0 c).before (2 : Fin 5) t0_0 d = sxstg m c := by unfold Dat.before; rw [if_pos (fetch0_2 t0_0)]; rfl
theorem before_sw (c : Dev nD) (d) : (dats m 0 c).before (3 : Fin 5) t0_0 d = swstg m c := by unfold Dat.before; rw [if_pos (fetch0_3 t0_0)]; rfl

/-! ## The body, as the launch asks for it -/

def bodyPre (c : Dev nD) : sProp 𝕄 :=
  iprop(Φ₀ m c ∗ (dats m 0 c).owesAt () (t0_0 : Fin cfg0.N).castSucc
    ∗ (∃ d, held c cc0_stg0_0 ((dats m 0 c).before (0 : Fin 5) t0_0 d))
    ∗ (∃ d, held c cc0_stg1_0 ((dats m 0 c).before (1 : Fin 5) t0_0 d))
    ∗ (∃ d, held c cc0_stg2_0 ((dats m 0 c).before (2 : Fin 5) t0_0 d))
    ∗ (∃ d, held c cc0_stg3_0 ((dats m 0 c).before (3 : Fin 5) t0_0 d))
    ∗ (∃ d, held c cc0_stg4_0 ((dats m 0 c).before (4 : Fin 5) t0_0 d)))

def bodyPost (c : Dev nD) : sProp 𝕄 :=
  iprop(Φ₁ c ∗ (dats m 0 c).owesAt () (t0_0 : Fin cfg0.N).succ
    ∗ held c cc0_stg0_0 (xstg m c) ∗ held c cc0_stg1_0 (wstg m c) ∗ held c cc0_stg2_0 (sxstg m c) ∗ held c cc0_stg3_0 (swstg m c)
    ∗ held c cc0_stg4_0 (out4 m c))

/-- What the body leaves is what the launch wants back. -/
theorem post_intro (c : Dev nD) :
    iprop(ow c [] ∗ allDone c ∗ sentBufs m c ∗ filled m c ∗ staged m c ∗ oPts c (out4 m c)) ⊢ bodyPost m c := by
  unfold bodyPost Φ₁ Dat.owesAt Pipeline.owesWithin ow
  rw [show (dats m 0 c).owed (t0_0 : Fin cfg0.N).succ = owe [] from rfl]
  iintro ⟨⟨%W, HO⟩, HD, HS, HF, ⟨Hx, Hw, Hsx, Hsw⟩, Ho⟩
  ihave HR := (pieces_scratch m c) $$ [HS HF]
  · isplitl [HS] <;> iassumption
  isplitl [HR HD]
  · isplitl [HR] <;> iassumption
  isplitl [HO]
  · iexists W
    isplitr; · ipureintro; exact fun _ _ => Or.inl trivial
    iexact HO
  isplitl [Hx]; · iapply (held_intro c cc0_stg0_0 (xstg m c)); unfold xPts; iexact Hx
  isplitl [Hw]; · iapply (held_intro c cc0_stg1_0 (wstg m c)); unfold wPts; iexact Hw
  isplitl [Hsx]; · iapply (held_intro c cc0_stg2_0 (sxstg m c)); unfold sxPts; iexact Hsx
  isplitl [Hsw]; · iapply (held_intro c cc0_stg3_0 (swstg m c)); unfold swPts; iexact Hsw
  iapply (held_intro c cc0_stg4_0 (out4 m c)); unfold oPts; iexact Ho

theorem body_sound (c : Dev nD) : bodyPre m c ⊢ runs c (onBufs (cc0_body (F := F))) (fun _ => bodyPost m c) := by
  unfold bodyPre Φ₀ start Dat.owesAt Pipeline.owesWithin
  simp only [before_x, before_w, before_sx, before_sw]
  rw [show (dats m 0 c).owed (t0_0 : Fin cfg0.N).castSucc = owe (debts c) from rfl]
  iintro ⟨⟨⟨%K, Hr, Hl, Hp, Hu, Hk, Ha⟩, Hb, Hs⟩, ⟨%W, -, HO⟩, ⟨%d0, %f0, %h0, Hx⟩, ⟨%d1, %f1, %h1, Hw⟩, ⟨%d2, %f2, %h2, Hsx⟩, ⟨%d3, %f3, %h3, Hsw⟩, ⟨%d4, %f4, %h4, Ho⟩⟩
  subst h0 h1 h2 h3
  iapply (body_runs m K c f4 (Q := fun _ => bodyPost m c)) $$ [HO Hr Hl Hp Hu Hk Ha Hb Hs Hx Hw Hsx Hsw Ho]
  · isplitl [Hr]; · iexact Hr
    isplitl [Hl]; · iexact Hl
    isplitl [HO]; · (unfold ow; iexists W; iexact HO)
    isplitl [Hp]; · iexact Hp
    isplitl [Hu]; · iexact Hu
    isplitl [Hk]; · iexact Hk
    isplitl [Ha]; · iexact Ha
    isplitl [Hs]; · iexact Hs
    isplitl [Hb]; · iexact Hb
    isplitl [Hx Hw Hsx Hsw]
    · isplitl [Hx]; · unfold xPts; iexact Hx
      isplitl [Hw]; · unfold wPts; iexact Hw
      isplitl [Hsx]; · unfold sxPts; iexact Hsx
      unfold swPts; iexact Hsw
    unfold oPts; iexact Ho
  iintro H
  iapply (post_intro m c); iexact H

set_option maxRecDepth 8000 in
theorem body_obligation (c : Dev nD) : BodyObligation (dats m 0 c) (defs₀ (F := F)) 𝒱₀ () Set.univ := fun t => by
  rw [show t = t0_0 from fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  exact body_sound m c

end Cert.Exchange

end
-- ==== Proof.Ghost.lean ====
/-
# Dealing out the exchange

At launch every semaphore of the mesh gets its invariant, and every token goes to the device that pays with it: a barrier's
three to the peers that signal it, an arrival's to the sender, a send's to the device itself. The positions stay where the
semaphores are. What the devices owe in all is what each may wait for.
-/
module

public import proofs.«01_k».proof.Proof.Data

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products over the exchange's semaphores -/

theorem bigSep_cell (Φ : Cell → sProp 𝕄) :
    bigSep Finset.univ Φ = iprop(Φ none ∗ (bigSep Finset.univ fun p : Fin 3 × Item => Φ (sendC p.1 p.2)) ∗ bigSep Finset.univ fun p : Fin 3 × Item => Φ (recvC p.1 p.2)) := by
  have he : (Finset.univ : Finset Cell).erase none = (Finset.univ : Finset (Bool × Fin 3 × Item)).map Function.Embedding.some := by decide
  have hb (Ψ : Bool → sProp 𝕄) : bigSep Finset.univ Ψ = iprop(Ψ false ∗ Ψ true) := bigSep_univ_eq_bigSepL [false, true] (by decide) (by decide) Ψ
  rw [bigSep_univ_at Φ none, he, bigSep_map, bigSep_univ_prod, hb]
  rfl

/-- Nine summands, by peer or slot and by item. -/
theorem bigSep_nine (Φ : Fin 3 → Item → sProp 𝕄) :
    (bigSep Finset.univ fun p : Fin 3 × Item => Φ p.1 p.2)
      = iprop((Φ 0 0 ∗ Φ 0 1 ∗ Φ 0 2) ∗ (Φ 1 0 ∗ Φ 1 1 ∗ Φ 1 2) ∗ (Φ 2 0 ∗ Φ 2 1 ∗ Φ 2 2)) := by
  rw [bigSep_univ_prod, bigSep_fin3, bigSep_fin3 (fun b => Φ 0 b), bigSep_fin3 (fun b => Φ 1 b), bigSep_fin3 (fun b => Φ 2 b)]

/-! ## The launch's ghost state -/

abbrev osem (i : Bool × Fin 3 × Item) : SemLoc sig := .dma (dsem i)
theorem ownSemFacts : Pipeline.OwnSemFacts cfg0.spec osem := by decide

theorem share_eq (c : Dev nD) (w : Fin cfg0.W) : (dats m 0 c).share w = fullShare := by unfold Dat.share; split <;> rfl

/-- Every semaphore of the exchange, on every device; -/
def meshCells : Finset (GSem nD τ sig) := Finset.univ.map ⟨kcell, kcell_injective⟩

/-- and every token: a barrier's three, a transfer semaphore's one. -/
def tokOf : Dev nD × (Fin 3 ⊕ (Bool × Fin 3 × Item)) → GSem nD τ sig × ℕ × Fin 3
  | (c, .inl d) => (kcell (c, none), 0, d)
  | (c, .inr i) => (kcell (c, some i), 0, 0)
theorem tokOf_injective : Function.Injective tokOf := by
  rintro ⟨c, d | i⟩ ⟨c', d' | i'⟩ h
  · have h1 := kcell_injective (congrArg Prod.fst h)
    have h2 : d = d' := congrArg (fun x : GSem nD τ sig × ℕ × Fin 3 => x.2.2) h
    rw [(Prod.mk.inj h1).1, h2]
  · exact absurd (Prod.mk.inj (kcell_injective (congrArg Prod.fst h))).2 (fun h => by cases h)
  · exact absurd (Prod.mk.inj (kcell_injective (congrArg Prod.fst h))).2 (fun h => by cases h)
  · have h1 := Prod.mk.inj (kcell_injective (congrArg Prod.fst h))
    rw [h1.1, Option.some.inj h1.2]
def meshToks : Finset (GSem nD τ sig × ℕ × Fin 3) := Finset.univ.map ⟨tokOf, tokOf_injective⟩

def u₀ : UU := (initOf (Pipeline.cells cfgs cellOf_inj) (Pipeline.launchToks cfgs cellOf_inj), initOf meshCells meshToks)

/-- The tokens of device `c`'s own semaphores. -/
def toks (c : Dev nD) : sProp 𝕄 :=
  iprop((bigSep Finset.univ fun d : Fin 3 => dutyTok ER (kcell (c, none)) 0 d)
    ∗ (bigSep Finset.univ fun p : Fin 3 × Item => dutyTok ER (kcell (c, sendC p.1 p.2)) 0 0)
    ∗ bigSep Finset.univ fun p : Fin 3 × Item => dutyTok ER (kcell (c, recvC p.1 p.2)) 0 0)

/-- What the launch deals device `c`. -/
def G (c : Dev nD) : sProp 𝕄 :=
  iprop((bigSep Finset.univ fun x : Cell => roundState ER (plan m) (kcell (c, x)) 0)
    ∗ (bigSep Finset.univ fun x : Cell => iprop(atPos ER (kcell (c, x)) 0 ∅ 0 ∗ reached ER (kcell (c, x)) 0)) ∗ toks c)

theorem deal : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun x : Cell => Φ (kcell (c, x)) := by
    unfold meshCells; rw [bigSep_map, bigSep_univ_prod]; rfl
  have hb (Ψ : Bool → sProp 𝕄) : bigSep Finset.univ Ψ = iprop(Ψ false ∗ Ψ true) := bigSep_univ_eq_bigSepL [false, true] (by decide) (by decide) Ψ
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum, bigSep_univ_prod (β := Fin 3 × Item), hb]; rfl
  iintro HX
  imod (Rounds.fund ER (plan m) meshCells meshToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSems0_eq (c : Dev nD) : (Pipeline.ownSems0 (Ix := Unit) (Name := ℕ) (U := UU) (Lvl := ℕ) (Val := Elt F) (τ := τ) osem c : sProp 𝕄)
    = iprop((bigSep Finset.univ fun p : Fin 3 × Item => done c (sendC p.1 p.2)) ∗ bigSep Finset.univ fun p : Fin 3 × Item => done c (recvC p.1 p.2)) := by
  have hb (Ψ : Bool → sProp 𝕄) : bigSep Finset.univ Ψ = iprop(Ψ false ∗ Ψ true) := bigSep_univ_eq_bigSepL [false, true] (by decide) (by decide) Ψ
  unfold Pipeline.ownSems0; rw [bigSep_univ_prod, hb]; rfl
theorem unscopedSems0_eq (c : Dev nD) : (unscopedSems0 c : sProp 𝕄) = done c none := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (kcell (c, x)) 0 : sProp 𝕄) := by
  rw [ownSems0_eq, unscopedSems0_eq, bigSep_cell]
  unfold done
  iintro ⟨⟨HS, HV⟩, HB⟩
  isplitl [HB]; · iexact HB
  isplitl [HS] <;> iassumption

/-- One device's semaphores go into their invariants. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (plan m) κ (kcell (c, x))))
          ∗ (bigSep Finset.univ fun x => iprop(atPos ER (kcell (c, x)) 0 ∅ 0 ∗ reached ER (kcell (c, x)) 0)) ∗ toks c) := by
  have h : iprop((bigSep Finset.univ fun x : Cell => semVal (kcell (c, x)) 0) ∗ bigSep Finset.univ fun x : Cell => roundState ER (plan m) (kcell (c, x)) 0)
      ⊢ (|={Set.univ}=> bigSep Finset.univ fun x => iprop(∃ κ : ℕ, cellInv ER (plan m) κ (kcell (c, x))) : sProp 𝕄) := by
    rw [← bigSep_sep']
    exact (bigSep_mono fun x _ => (Rounds.body_intro ER (plan m) (kcell (c, x))).trans inv_alloc).trans (bigSep_fupd _ _)
  unfold G
  iintro ⟨Ho, Hu, Hst, Hat, Htok⟩
  ihave Hv := (sems0 (F := F) c) $$ [Ho Hu]
  · isplitl [Ho] <;> iassumption
  imod h $$ [Hv Hst] with Hinv
  · isplitl [Hv] <;> iassumption
  imodintro
  isplitl [Hinv]; · iexact Hinv
  isplitl [Hat]; · iexact Hat
  iexact Htok

/-! ## Tokens to their payers -/

/-- The tokens device `c` pays with. -/
def payToks (c : Dev nD) : sProp 𝕄 :=
  iprop((bigSep Finset.univ fun j : Fin 3 => dutyTok ER (kcell (peer c j, none)) 0 (rev j))
    ∗ (bigSep Finset.univ fun p : Fin 3 × Item => dutyTok ER (kcell (c, sendC p.1 p.2)) 0 0)
    ∗ bigSep Finset.univ fun p : Fin 3 × Item => dutyTok ER (kcell (arrival c p.1 p.2)) 0 0)

/-- Crossing over with an item in hand. -/
def crossItem : Dev nD × (Fin 3 × Item) ≃ Dev nD × (Fin 3 × Item) where
  toFun p := (peer p.1 p.2.1, rev p.2.1, p.2.2)
  invFun p := (peer p.1 p.2.1, rev p.2.1, p.2.2)
  left_inv := fun ⟨c, j, k⟩ => by dsimp only; rw [peer_rev, rev_rev]
  right_inv := fun ⟨c, j, k⟩ => by dsimp only; rw [peer_rev, rev_rev]

theorem toks_cross : (bigSep Finset.univ fun c : Dev nD => (toks c : sProp 𝕄)) ⊢ bigSep Finset.univ fun c : Dev nD => payToks c := by
  have h1 : (bigSep Finset.univ fun c : Dev nD => bigSep Finset.univ fun d : Fin 3 => (dutyTok ER (kcell (c, none)) 0 d : sProp 𝕄))
      = bigSep Finset.univ fun c : Dev nD => bigSep Finset.univ fun j : Fin 3 => dutyTok ER (kcell (peer c j, none)) 0 (rev j) := by
    rw [← bigSep_univ_prod (fun p : Dev nD × Fin 3 => (dutyTok ER (kcell (p.1, none)) 0 p.2 : sProp 𝕄)), bigSep_univ_equiv cross, bigSep_univ_prod]; rfl
  have h2 : (bigSep Finset.univ fun c : Dev nD => bigSep Finset.univ fun p : Fin 3 × Item => (dutyTok ER (kcell (c, recvC p.1 p.2)) 0 0 : sProp 𝕄))
      = bigSep Finset.univ fun c : Dev nD => bigSep Finset.univ fun p : Fin 3 × Item => dutyTok ER (kcell (arrival c p.1 p.2)) 0 0 := by
    rw [← bigSep_univ_prod (fun p : Dev nD × (Fin 3 × Item) => (dutyTok ER (kcell (p.1, recvC p.2.1 p.2.2)) 0 0 : sProp 𝕄)), bigSep_univ_equiv crossItem, bigSep_univ_prod]; rfl
  unfold toks payToks
  simp only [bigSep_sep']
  rw [h1, h2]

/-! ## One device's bundle -/

/-- What is a device's alone: its positions and its tokens. -/
def linear (c : Dev nD) : sProp 𝕄 := iprop((bigSep Finset.univ fun x : Cell => atPos ER (kcell (c, x)) 0 ∅ 0) ∗ payToks c)

def G' (c : Dev nD) : sProp 𝕄 := iprop(∃ K : Dev nD × Cell → ℕ, records m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cell => iprop(∃ κ : ℕ, cellInv ER (plan m) κ (kcell (c, x))))
          ∗ (bigSep Finset.univ fun x : Cell => iprop(atPos ER (kcell (c, x)) 0 ∅ 0 ∗ reached ER (kcell (c, x)) 0)) ∗ toks c) : sProp 𝕄)
      ⊢ bigSep Finset.univ (G' m) := by
  simp only [bigSep_sep']
  rw [← bigSep_univ_prod (fun x : Dev nD × Cell => (iprop(∃ κ : ℕ, cellInv ER (plan m) κ (kcell x)) : sProp 𝕄)),
    ← bigSep_univ_prod (fun x : Dev nD × Cell => (reached ER (kcell x) 0 : sProp 𝕄))]
  iintro ⟨HI, ⟨Hat, #HR⟩, Htok⟩
  ihave HK := (BI.bigSep_exists_pi Finset.univ (fun (x : Dev nD × Cell) (κ : ℕ) => (cellInv ER (plan m) κ (kcell x) : sProp 𝕄))) $$ HI
  icases HK with ⟨%K, #HI⟩
  ihave Htk := (toks_cross (F := F)) $$ Htok
  iapply (with_persistent (R := records m K) (Φ := linear) (Ψ := G' m) fun c _ => show _ ⊢ G' m c from
    BIClass.exists_intro (Φ := fun K : Dev nD × Cell → ℕ => (iprop(records m K ∗ linear c) : sProp 𝕄)) K)
  isplitr
  · unfold records; isplitl; · iexact HI
    iexact HR
  · unfold linear
    rw [bigSep_sep']
    isplitl [Hat]; · iexact Hat
    iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## What each device may wait for -/

/-- What all devices together owe a semaphore: all that is waited for, at a barrier or an arrival. -/
theorem owed_bar (c : Dev nD) : ∑ d : Dev nD, (debts d).count (c, none) = 3 := by revert c; decide
theorem owed_recv (c : Dev nD) (s : Fin 3) (k : Item) : ∑ d : Dev nD, (debts d).count (c, recvC s k) = 1 := by revert c s k; decide

theorem owed_total (c : Dev nD) (x : Cell) (hx : x = none ∨ ∃ p : Fin 3 × Item, x = recvC p.1 p.2) : ∑ d : Dev nD, owe (debts d) (kcell (c, x)) () = total x := by
  rw [Finset.sum_congr rfl fun d _ => owe_apply (debts d) (c, x), ← Finset.sum_mul]
  rcases hx with rfl | ⟨p, rfl⟩
  · rw [owed_bar]; rfl
  · rw [owed_recv, Nat.one_mul]; rfl

theorem credit_eq (c : Dev nD) (x : Cell) (hx : x = none ∨ ∃ p : Fin 3 × Item, x = recvC p.1 p.2) :
    tallyOn (kcell (c, x)) (launchCredit (Pipeline.owing fun d => owe (debts d)) 0 (kcell (c, x))) = (tallyAt (kcell (c, x)) () (total x) : CellTallies nD τ sig Unit) := by
  unfold tallyAt; refine congrArg _ (Finsupp.ext fun u => ?_); cases u
  rw [Pipeline.launchCredit_owing, Finsupp.single_eq_same]
  exact owed_total c x hx

theorem recvC_injective : Function.Injective fun p : Fin 3 × Item => csem (recvC p.1 p.2) := fun p p' h => by
  have := csem_injective h
  simp only [Option.some.injEq, Prod.mk.injEq, true_and] at this
  exact Prod.ext this.1 this.2

theorem creds (c : Dev nD) :
    (Pipeline.launchCred (fun d => owe (debts d)) c : sProp 𝕄) ⊢ iprop(cred (tallyAt (kcell (c, none)) () (total none))
      ∗ bigSep Finset.univ fun p : Fin 3 × Item => cred (tallyAt (kcell (c, recvC p.1 p.2)) () (total (recvC p.1 p.2)))) := by
  unfold Pipeline.launchCred
  rw [bigSep_univ_at _ (csem none)]
  refine BIClass.sep_mono (Entails.of_eq (congrArg cred (credit_eq c none (Or.inl rfl)))) ?_
  refine BIBase.Entails.trans (bigSep_subset (t := Finset.univ.map ⟨_, recvC_injective⟩) fun sm h => ?_) ?_
  · obtain ⟨p, -, rfl⟩ := Finset.mem_map.mp h
    exact Finset.mem_erase.mpr ⟨fun h => absurd (csem_injective (a₁ := recvC p.1 p.2) (a₂ := none) h) (fun h => by cases h), Finset.mem_univ _⟩
  · rw [bigSep_map]
    exact Entails.of_eq (bigSep_congr fun p _ => congrArg cred (credit_eq c (recvC p.1 p.2) (Or.inr ⟨p, rfl⟩)))

/-- Tokens, positions and credits, bundled as the body takes them. -/
theorem start_intro (c : Dev nD) : iprop(levAts L lv ∗ Pipeline.launchCred (fun d => owe (debts d)) c ∗ G' m c) ⊢ start m c := by
  have hk : iprop((bigSep Finset.univ fun p : Fin 3 × Item => dutyTok ER (kcell (c, sendC p.1 p.2)) 0 0)
      ∗ (bigSep Finset.univ fun p : Fin 3 × Item => dutyTok ER (kcell (arrival c p.1 p.2)) 0 0)
      ∗ bigSep Finset.univ fun p : Fin 3 × Item => atPos ER (kcell (c, sendC p.1 p.2)) 0 ∅ 0) ⊢ (kits c : sProp 𝕄) := by
    rw [← bigSep_sep', ← bigSep_sep']
    exact Entails.of_eq (bigSep_nine fun j k => kit c j k)
  have ha : iprop((bigSep Finset.univ fun p : Fin 3 × Item => cred (tallyAt (kcell (c, recvC p.1 p.2)) () (total (recvC p.1 p.2))))
      ∗ bigSep Finset.univ fun p : Fin 3 × Item => atPos ER (kcell (c, recvC p.1 p.2)) 0 ∅ 0) ⊢ (arrivals c : sProp 𝕄) := by
    rw [← bigSep_sep']
    exact Entails.of_eq (bigSep_nine fun s k => pend c (recvC s k))
  unfold G' start linear payToks
  rw [bigSep_cell, bigSep_fin3]
  iintro ⟨Hl, Hc, ⟨%K, Hr, ⟨Pb, Ps, Pr⟩, Hu, Ts, Tr⟩⟩
  ihave Hc := (creds (F := F) c) $$ Hc
  icases Hc with ⟨Cb, Cr⟩
  iexists K
  isplitl [Hr]; · iexact Hr
  isplitl [Hl]; · iexact Hl
  isplitl [Cb Pb]
  · unfold pend; isplitl [Cb] <;> iassumption
  isplitl [Hu]; · iexact Hu
  isplitl [Ts Tr Ps]
  · iapply hk
    isplitl [Ts]; · iexact Ts
    isplitl [Tr] <;> iassumption
  iapply ha
  isplitl [Cr] <;> iassumption

end Cert.Exchange

end
-- ==== Proof.Run.lean ====
/-
# The run

The kernel on all four devices, for any float values: every run ends, with the result's array on each device as the body
computed it, the arguments as they were, and every semaphore at zero.
-/
module

public import proofs.«01_k».proof.Proof.Ghost
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem enter (c : Dev nD) :
    iprop(Pipeline.unscopedRestP Pipeline.Prefetch.none cfg0.spec c (fun b => m ((c : Thread nD τ).loc b)) ∗ levAts L lv
        ∗ Pipeline.launchCred (fun d => owe (debts d)) c ∗ prngReg c (ρ c) ∗ G' m c)
      ⊢ |={Set.univ}=> iprop(start m c ∗ emp) := by
  iintro ⟨-, Hl, Hc, -, HG⟩
  imodintro
  isplitl
  · iapply (start_intro m c)
    isplitl [Hl]; · iexact Hl
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_pieces (F := F) c); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems0_eq, unscopedSems0_eq,
    bigSep_nine (fun j k => done c (sendC j k)), bigSep_nine (fun s k => done c (recvC s k))]
  unfold Φ₁
  iintro ⟨Hr, HB, HS, HV⟩
  isplitl [HB]; · iexact HB
  isplitl [HS HV]
  · isplitl [HS] <;> iassumption
  iexact Hr

theorem debts_above (c : Dev nD) : ∀ x ∈ debts c, rank none < rank (some x.2) := by revert c; decide

/-- Staging ranks below everything owed. -/
theorem waits (c : Dev nD) : (levAts L lv : sProp 𝕄) ⊢ Pipeline.cellsWaits cfgs (dats m) () 0 c :=
  Pipeline.cellsWaits_intro cfgs (dats m) () 0 c fun w s t => by
    have hk : kindOf (.dma (((cfgs 0).win w).sem s)) = none := kindOf_of_ne (by fin_cases w <;> fin_cases s <;> decide)
    have ho : ∃ l : List (Dev nD × Cell), (l = debts c ∨ l = []) ∧ (dats m 0 c).owed t = owe l := by
      rcases t with ⟨_ | _, ht⟩
      · exact ⟨_, Or.inl rfl, rfl⟩
      · exact ⟨_, Or.inr rfl, rfl⟩
    obtain ⟨l, hl, e⟩ := ho
    rw [e]
    refine mayWait c _ l fun x hx => ?_
    rw [hk]
    rcases hl with rfl | rfl
    · exact debts_above c x hx
    · cases hx

/-- What each window's array holds at the end. -/
def finalA (c : Dev nD) (w : Fin cfg0.W) : Buf (Elt F) ((cfg0.win w).arr.view.loc (c : Thread nD τ)) := (dats m 0 c).arrAt w cfg0.N

def Final : PUnit × MemSt nD τ sig (Elt F) → Prop := fun r =>
  ∀ c : Dev nD, ∀ w : Fin cfg0.W, r.2.mem ((cfg0.win w).arr.view.loc (c : Thread nD τ)) = finalA m c w

set_option maxRecDepth 8000 in
theorem run_main : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owe (debts d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := enter m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem final_x (c : Dev nD) : finalA m c (0 : Fin 5) = m ((c : Thread nD τ).loc main_arg0) := (dats m 0 c).arrAt_in (0 : Fin 5) rfl _
theorem final_w (c : Dev nD) : finalA m c (1 : Fin 5) = m ((c : Thread nD τ).loc main_arg1) := (dats m 0 c).arrAt_in (1 : Fin 5) rfl _
theorem final_sx (c : Dev nD) : finalA m c (2 : Fin 5) = m ((c : Thread nD τ).loc main_arg2) := (dats m 0 c).arrAt_in (2 : Fin 5) rfl _
theorem final_sw (c : Dev nD) : finalA m c (3 : Fin 5) = m ((c : Thread nD τ).loc main_arg3) := (dats m 0 c).arrAt_in (3 : Fin 5) rfl _

/-- The run with its values dropped: the arguments are as they were and no semaphore is left raised. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨(h.1 c 0).trans (final_x m c), (h.1 c 1).trans (final_w m c), (h.1 c 2).trans (final_sx m c), (h.1 c 3).trans (final_sw m c)⟩, h.2⟩)
    (run_main m ρ)

end Cert.Exchange

end
-- ==== Proof.Blocks.lean ====
/-
# Where each value sits

Every load, store and staging of the kernel, read at an index: which rows of `x` and which columns of `w` a piece is, which
columns of the result a store replaces, and that the array of the result ends as the staging buffer was left.
-/
module

public import proofs.«01_k».proof.Proof.Run
public import Idealize.ShloMosaic.Lib.ValueIdx

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ)

/-! ## The windows are the arrays -/

theorem place_x (i : S4096x1024.Idx) : (win0_0.blk (0 : Fin 1)).view.emb i = i := by
  funext a; apply Fin.ext
  match a with
  | ⟨0, _⟩ => show 0 * 4096 + 1 * (i 0).val = (i 0).val; omega
  | ⟨1, _⟩ => show 0 * 1024 + 1 * (i 1).val = (i 1).val; omega
theorem place_w (i : S1024x2048.Idx) : (win0_1.blk (0 : Fin 1)).view.emb i = i := by
  funext a; apply Fin.ext
  match a with
  | ⟨0, _⟩ => show 0 * 1024 + 1 * (i 0).val = (i 0).val; omega
  | ⟨1, _⟩ => show 0 * 2048 + 1 * (i 1).val = (i 1).val; omega
theorem place_o (i : S1024x2048.Idx) : (win0_4.blk (0 : Fin 1)).view.emb i = i := by
  funext a; apply Fin.ext
  match a with
  | ⟨0, _⟩ => show 0 * 1024 + 1 * (i 0).val = (i 0).val; omega
  | ⟨1, _⟩ => show 0 * 2048 + 1 * (i 1).val = (i 1).val; omega

/-- An array of one element has one index. -/
theorem one_idx (i j : S1.Idx) : i = j := funext fun a => Fin.ext (by
  obtain rfl : a = 0 := Subsingleton.elim _ _
  have h1 : (i 0).val < 1 := (i 0).isLt
  have h2 : (j 0).val < 1 := (j 0).isLt
  omega)

theorem xstg_eq (c : Dev nD) : xstg m c = m ((c : Thread nD τ).loc main_arg0) := funext fun i => by
  show m ((c : Thread nD τ).loc main_arg0) ((win0_0.blk (0 : Fin 1)).view.emb i) = _
  rw [place_x]
theorem wstg_eq (c : Dev nD) : wstg m c = m ((c : Thread nD τ).loc main_arg1) := funext fun i => by
  show m ((c : Thread nD τ).loc main_arg1) ((win0_1.blk (0 : Fin 1)).view.emb i) = _
  rw [place_w]

/-- The scales, whichever name the one index goes by. -/
theorem scaleX_eq (c : Dev nD) (i : S1.Idx) : scaleX m c = m ((c : Thread nD τ).loc main_arg2) i := by
  show m ((c : Thread nD τ).loc main_arg2) ((win0_2.blk (0 : Fin 1)).view.emb _) = _
  exact congrArg _ (one_idx _ _)
theorem scaleW_eq (c : Dev nD) (i : S1.Idx) : scaleW m c = m ((c : Thread nD τ).loc main_arg3) i := by
  show m ((c : Thread nD τ).loc main_arg3) ((win0_3.blk (0 : Fin 1)).view.emb _) = _
  exact congrArg _ (one_idx _ _)

/-! ## What travels -/

/-- Row `r` of the rows that device `c`'s part of the result takes, among all rows. -/
def row (c : Dev nD) (r : Fin 1024) : Fin 4096 := ⟨c.val * 1024 + r.val, by have h : c.val < 4 := c.isLt; omega⟩
/-- Column `n` of half `h`, among all columns. -/
def colAt (h : Fin 2) (n : Fin 1024) : Fin 2048 := ⟨col h + n.val, by
  have : col h ≤ 1024 := by revert h; decide
  omega⟩

theorem ownX_apply (c : Dev nD) (r k : Fin 1024) : ownX m c (ix2 r k) = m ((c : Thread nD τ).loc main_arg0) (ix2 (row c r) k) := by
  show xstg m c ((ownRowsR c).idx (ix2 r k)) = _
  rw [xstg_eq]
  refine congrArg _ (funext fun a => Fin.ext ?_)
  have h := k0_off2_eq c
  match a with
  | ⟨0, _⟩ =>
    show k0_off2 c 0 + 1 * r.val = c.val * 1024 + r.val
    rw [h]; show 1024 * c.val + 1 * r.val = _; omega
  | ⟨1, _⟩ =>
    show k0_off2 c 1 + 1 * k.val = k.val
    rw [h]; show 0 + 1 * k.val = _; omega

theorem sentX_apply (c : Dev nD) (j : Fin 3) (r k : Fin 1024) : sentX m c j (ix2 r k) = m ((c : Thread nD τ).loc main_arg0) (ix2 (row (peer c j) r) k) := by
  show xstg m c ((rowsR c j).idx (ix2 r k)) = _
  rw [xstg_eq]
  refine congrArg _ (funext fun a => Fin.ext ?_)
  have h := k0_off1_eq c j
  match a with
  | ⟨0, _⟩ =>
    show k0_off1 c (BitVec.ofNat 32 (1 + j.val)) 0 + 1 * r.val = ((c.val + j.val + 1) % 4) * 1024 + r.val
    rw [h]; show 1024 * ((c.val + j.val + 1) % 4) + 1 * r.val = _; omega
  | ⟨1, _⟩ =>
    show k0_off1 c (BitVec.ofNat 32 (1 + j.val)) 1 + 1 * k.val = k.val
    rw [h]; show 0 + 1 * k.val = _; omega

theorem half_idx (h : Fin 2) (k n : Fin 1024) : (halfR h).idx (ix2 k n) = (ix2 k (colAt h n) : S1024x2048.Idx) := by
  funext a; apply Fin.ext
  match a with
  | ⟨0, _⟩ => show 0 + 1 * k.val = k.val; omega
  | ⟨1, _⟩ => show col h + 1 * n.val = col h + n.val; omega

theorem sentW_apply (c : Dev nD) (h : Fin 2) (k n : Fin 1024) : sentW m c h (ix2 k n) = m ((c : Thread nD τ).loc main_arg1) (ix2 k (colAt h n)) := by
  show wstg m c ((halfR h).idx (ix2 k n)) = _
  rw [wstg_eq]
  exact congrArg _ (half_idx h k n)

/-! ## The result block by halves -/

theorem getO_apply (h : Fin 2) (f : Vec F S1024x2048 .f32) (r n : Fin 1024) : getO h f (ix2 r n) = f (ix2 r (colAt h n)) := by
  show f ((halfR h).idx (ix2 r n)) = _
  exact congrArg f (half_idx h r n)

/-- A half just stored reads as stored, -/
theorem getO_putO (h : Fin 2) (f : Vec F S1024x2048 .f32) (w : Vec F S1024x1024 .f32) : getO h (putO h f w) = w := by
  show (oM.view.slice (halfR h)).read (Elt F) ((oM.view.slice (halfR h)).write (Elt F) f w Finset.univ) = w
  exact View.read_write_univ _ _

/-- What is stored to one rectangle of a buffer is not seen through another that shares nothing with it. -/
theorem read_apart {sh : Shape} {e : EltTy} (M : Memref sig .tc .vmem sh e) (r r' : Rect sh) (hd : Disjoint r.set r'.set)
    (f : M.view.ty.Contents (Elt F)) (w : r'.shape.Idx → Elt F e) :
    (M.view.slice r).read (Elt F) ((M.view.slice r').write (Elt F) f w Finset.univ) = (M.view.slice r).read (Elt F) f :=
  View.read_slice_write_slice_of_disjoint _ _ _ _ _ (by
    rw [View.set_slice]
    show Disjoint _ (M.view.slice r').set
    rw [View.set_slice]; exact (Finset.disjoint_map _).mpr hd)

/-- So the other half reads as before. -/
theorem getO_putO_ne {h h' : Fin 2} (hne : h ≠ h') (f : Vec F S1024x2048 .f32) (w : Vec F S1024x1024 .f32) : getO h (putO h' f w) = getO h f :=
  read_apart oM (halfR h) (halfR h') (halves_disjoint h h' hne) f w

/-! ## The result's array -/

/-- The window of the result is never cut short: it is the whole array. -/
theorem cut_o (f : Vec F S1024x2048 .f32) : (cfg0.win (4 : Fin 5)).cut (grid0.coords t0_0) f = f := rfl

theorem read_o (f : Vec F S1024x2048 .f32) (i : S1024x2048.Idx) : ((cfg0.win (4 : Fin 5)).blk t0_0).view.read (Elt F) f i = f i :=
  congrArg f (place_o i)

theorem flushed_o (c : Dev nD) : (dats m 0 c).flushed (4 : Fin 5) t0_0 = out4 m c := cut_o (out4 m c)

theorem apart_o (t t' : Fin cfg0.N) (_ : (cfg0.win (4 : Fin 5)).flush t = true) (_ : (cfg0.win (4 : Fin 5)).flush t' = true) (h : t ≠ t') :
    Disjoint ((cfg0.win (4 : Fin 5)).blk t).view.set ((cfg0.win (4 : Fin 5)).blk t').view.set :=
  absurd ((fin_N0 t).trans (fin_N0 t').symm) h

theorem final_o (c : Dev nD) : finalA m c (4 : Fin 5) = out4 m c := by
  have h := (dats m 0 c).read_blk_arrAt_eq_flushed (4 : Fin 5) apart_o cfg0.N t0_0 t0_0.isLt (flush0_4 t0_0)
  exact funext fun i => (read_o (finalA m c (4 : Fin 5)) i).symm.trans ((congrFun h i).trans (congrFun (flushed_o m c) i))

end Cert.Exchange

end
-- ==== Proof.Values.lean ====
/-
# The result block, element by element, over the extended reals

Device `c`'s result at row `r` and column `n` is the sum over the four devices `d` of row `1024 c + r` of `d`'s columns of `x`
times column `n` of `d`'s rows of `w`, and that sum times the product of the two scales. The kernel adds the four in the order its messages
come in; addition of extended reals is commutative and associative, so the order is dropped here.
-/
module

public import proofs.«01_k».proof.Proof.Blocks
public import Idealize.ShloMosaic.Lib.MatmulPlain

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable (m : (ℓ : Loc nD τ sig) → Buf (Elt Ideal) ℓ)

/-- Device `d`'s columns of `x`, and its rows of `w`. -/
abbrev xOf (d : Dev nD) : FVec Ideal S4096x1024 .fp8e4m3 := m ((d : Thread nD τ).loc main_arg0)
abbrev wOf (d : Dev nD) : FVec Ideal S1024x2048 .fp8e5m2 := m ((d : Thread nD τ).loc main_arg1)
/-- The two scales on device `d`. -/
def scales (d : Dev nD) : EReal :=
  HMul.hMul (α := EReal) (β := EReal) (m ((d : Thread nD τ).loc main_arg2) oneIdx) (m ((d : Thread nD τ).loc main_arg3) oneIdx)

/-- Device `d`'s share of element `(r, n)` of device `c`'s part of the result. -/
def share (c d : Dev nD) (r : Fin 1024) (n : Fin 2048) : EReal := ∑ k : Fin 1024, xOf m d (ix2 (row c r) k) * wOf m d (ix2 k n)

/-! ## One product -/

/-- The product the kernel prints, into zeros, at an index. -/
theorem square_apply (a b : FVec Ideal S1024x1024 .bf16) (r n : Fin 1024) :
    matmul dot_S1024x1024_S1024x1024_S1024x1024_1_0_0_1_n_n none a b (constant S1024x1024 .f32 0x00000000#32) (ix2 r n)
      = ∑ k : Fin 1024, a (ix2 r k) * b (ix2 k n) := by
  refine (Ideal.matmul_plain_apply none a b _ r n).trans ?_
  rw [ValueIdx.constant_apply, Ideal.ofBits_zero_f32, zero_add]

theorem wide_apply (a : FVec Ideal S1024x1024 .bf16) (b : FVec Ideal S1024x2048 .bf16) (r : Fin 1024) (n : Fin 2048) :
    matmul dot_S1024x1024_S1024x2048_S1024x2048_1_0_0_1_n_n none a b (constant S1024x2048 .f32 0x00000000#32) (ix2 r n)
      = ∑ k : Fin 1024, a (ix2 r k) * b (ix2 k n) := by
  refine (Ideal.matmul_plain_apply none a b _ r n).trans ?_
  rw [ValueIdx.constant_apply, Ideal.ofBits_zero_f32, zero_add]

/-! ## What came in, as factors -/

theorem came_x (c : Dev nD) (s : Fin 3) (r k : Fin 1024) : k0_pay7 (gotX m c s) (ix2 r k) = xOf m (peer c s) (ix2 (row c r) k) := by
  have e : k0_pay7 (gotX m c s) (ix2 r k) = sentX m (peer c s) (rev s) (ix2 r k) :=
    congrFun (shapeCast_shapeCast (sentX m (peer c s) (rev s)) shapeCasts_S1024x1024_S1x1024x1024 shapeCasts_S1x1024x1024_S1024x1024) (ix2 r k)
  rw [e, sentX_apply, peer_rev]

theorem came_w (c : Dev nD) (s : Fin 3) (h : Fin 2) (k n : Fin 1024) :
    shapeCast S1024x1024 (gotW m c s h) shapeCasts_S1x1024x1024_S1024x1024 (ix2 k n) = wOf m (peer c s) (ix2 k (colAt h n)) := by
  have e : shapeCast S1024x1024 (gotW m c s h) shapeCasts_S1x1024x1024_S1024x1024 (ix2 k n) = sentW m (peer c s) h (ix2 k n) :=
    congrFun (shapeCast_shapeCast (sentW m (peer c s) h) shapeCasts_S1024x1024_S1x1024x1024 shapeCasts_S1x1024x1024_S1024x1024) (ix2 k n)
  rw [e, sentW_apply]

/-- A product of what one peer sent. -/
theorem came_share (c : Dev nD) (s : Fin 3) (h : Fin 2) (r n : Fin 1024) :
    matmul dot_S1024x1024_S1024x1024_S1024x1024_1_0_0_1_n_n none (k0_pay7 (gotX m c s))
      (extf .bf16 (shapeCast S1024x1024 (gotW m c s h) shapeCasts_S1x1024x1024_S1024x1024) bitsLt_fp8e5m2_bf16)
      (constant S1024x1024 .f32 0x00000000#32) (ix2 r n) = share m c (peer c s) r (colAt h n) := by
  rw [square_apply]
  refine Finset.sum_congr rfl fun k _ => ?_
  rw [ValueIdx.extf_apply, came_x, came_w]

theorem own_share (c : Dev nD) (r : Fin 1024) (n : Fin 2048) : out0 m c (ix2 r n) = share m c c r n := by
  show k0_pay6 (ownX m c) (wstg m c) (ix2 r n) = _
  unfold k0_pay6
  refine (wide_apply _ _ r n).trans (Finset.sum_congr rfl fun k _ => ?_)
  rw [ValueIdx.extf_apply, ValueIdx.extf_apply]
  simp only [shapeCast_self]
  rw [ownX_apply, wstg_eq]

/-! ## The stores -/

/-- A half after the first two peers. -/
theorem two_apply (c : Dev nD) (h : Fin 2) (f : Vec Ideal S1024x1024 .f32) (r n : Fin 1024) :
    k0_pay9 (k0_pay7 (gotX m c 0)) (k0_pay8 (gotX m c 2)) (gotW m c 0 h) (gotW m c 2 h) f (ix2 r n)
      = HAdd.hAdd (α := EReal) (β := EReal) (f (ix2 r n)) (share m c (peer c 0) r (colAt h n) + share m c (peer c 2) r (colAt h n)) := by
  rw [← came_share m c 0 h r n, ← came_share m c 2 h r n]
  unfold k0_pay9
  simp only [shapeCast_self]
  rfl

/-- A half after the last peer, scaled. -/
theorem last_apply (c : Dev nD) (h : Fin 2) (f : Vec Ideal S1024x1024 .f32) (r n : Fin 1024) :
    k0_pay12 (k0_pay11 (gotX m c 1)) (gotW m c 1 h) f (scaleX m c) (scaleW m c) (ix2 r n)
      = (HAdd.hAdd (α := EReal) (β := EReal) (f (ix2 r n)) (share m c (peer c 1) r (colAt h n))) * scales m c := by
  rw [← came_share m c 1 h r n]
  have es : scales m c = HMul.hMul (α := EReal) (β := EReal) (scaleX m c) (scaleW m c) := by
    rw [scaleX_eq m c oneIdx, scaleW_eq m c oneIdx]; rfl
  rw [es]
  unfold k0_pay12
  simp only [shapeCast_self]
  rfl

/-! ## The two halves of the result -/

theorem half0 (c : Dev nD) : getO 0 (out4 m c) = k0_pay12 (k0_pay11 (gotX m c 1)) (gotW m c 1 0)
    (k0_pay9 (k0_pay7 (gotX m c 0)) (k0_pay8 (gotX m c 2)) (gotW m c 0 0) (gotW m c 2 0) (getO 0 (out0 m c))) (scaleX m c) (scaleW m c) := by
  unfold out4; rw [getO_putO_ne (by decide)]
  unfold out3; rw [getO_putO]
  unfold out2; rw [getO_putO_ne (by decide)]
  unfold out1; rw [getO_putO]

theorem half1 (c : Dev nD) : getO 1 (out4 m c) = k0_pay12 (k0_pay11 (gotX m c 1)) (gotW m c 1 1)
    (k0_pay9 (k0_pay7 (gotX m c 0)) (k0_pay8 (gotX m c 2)) (gotW m c 0 1) (gotW m c 2 1) (getO 1 (out0 m c))) (scaleX m c) (scaleW m c) := by
  unfold out4; rw [getO_putO]
  unfold out3; rw [getO_putO_ne (by decide)]
  unfold out2; rw [getO_putO]
  unfold out1; rw [getO_putO_ne (by decide)]
  rfl

theorem half_apply (c : Dev nD) (h : Fin 2) : getO h (out4 m c) = k0_pay12 (k0_pay11 (gotX m c 1)) (gotW m c 1 h)
    (k0_pay9 (k0_pay7 (gotX m c 0)) (k0_pay8 (gotX m c 2)) (gotW m c 0 h) (gotW m c 2 h) (getO h (out0 m c))) (scaleX m c) (scaleW m c) :=
  match h with
  | ⟨0, _⟩ => half0 m c
  | ⟨1, _⟩ => half1 m c

/-- The four devices from `c` around the ring are all the devices, in whatever order they are added. -/
theorem around (f : Dev nD → EReal) (c : Dev nD) : f c + (f (peer c 0) + f (peer c 2)) + f (peer c 1) = ∑ d : Dev nD, f d := by
  have e : ∑ d : Dev nD, f d = f 0 + f 1 + f 2 + f 3 := Fin.sum_univ_four f
  rw [e]
  rcases (by decide : ∀ c : Dev nD, c = 0 ∨ c = 1 ∨ c = 2 ∨ c = 3) c with rfl | rfl | rfl | rfl
  · rw [show peer 0 0 = 1 by decide, show peer 0 1 = 2 by decide, show peer 0 2 = 3 by decide]; abel
  · rw [show peer 1 0 = 2 by decide, show peer 1 1 = 3 by decide, show peer 1 2 = 0 by decide]; abel
  · rw [show peer 2 0 = 3 by decide, show peer 2 1 = 0 by decide, show peer 2 2 = 1 by decide]; abel
  · rw [show peer 3 0 = 0 by decide, show peer 3 1 = 1 by decide, show peer 3 2 = 2 by decide]; abel

/-- Every column lies in one of the halves. -/
theorem colAt_cover (n : Fin 2048) : ∃ h n', n = colAt h n' := by
  by_cases hn : n.val < 1024
  · exact ⟨0, ⟨n.val, hn⟩, Fin.ext (by show n.val = 0 + n.val; omega)⟩
  · exact ⟨1, ⟨n.val - 1024, by omega⟩, Fin.ext (by show n.val = 1024 + (n.val - 1024); omega)⟩

/-- **Device `c`'s result, element by element.** -/
theorem result_apply (c : Dev nD) (r : Fin 1024) (n : Fin 2048) : finalA m c (4 : Fin 5) (ix2 r n) = (∑ d : Dev nD, share m c d r n) * scales m c := by
  obtain ⟨h, n, rfl⟩ := colAt_cover n
  rw [final_o, ← getO_apply h (out4 m c) r n, half_apply, last_apply, two_apply, getO_apply, own_share, ← around]

end Cert.Exchange

end
-- ==== Proof.Whole.lean ====
/-
# The reference's result, element by element, over the extended reals

The reference is one body without a grid, over whole arrays: its result at row `R` and column `n` is the product of the two arrays there, times the
product of the two scales.
-/
module

public import proofs.«01_k».proof.Proof.Gen.ReferenceIdeal.Value
public import Idealize.ShloMosaic.Lib.MatmulPlain
public import Idealize.ShloMosaic.Lib.ValueIdx
public import Idealize.ShloMosaic.Lib.VecWindow
public import Idealize.ShloMosaic.Lib.Pipeline.ValueKit.Tiles

@[expose] public section

noncomputable section

namespace Cert.Whole

open Cert.ReferenceIdeal Cert.ReferenceIdeal.Gen
open Idealize.ShloMosaic Idealize.ShloMosaic.TcCoe Idealize.ShloMosaic.ValueIdx

/-- The one point of the grid. -/
abbrev pt : Fin cfg0.N := t0_0

/-! ## The windows are the arrays -/

theorem place_x (i : S4096x4096.Idx) : ((cfg0.win 0).blk pt).view.emb i = i := by
  funext a; apply Fin.ext
  match a with
  | ⟨0, _⟩ => show 0 * 4096 + 1 * (i 0).val = (i 0).val; omega
  | ⟨1, _⟩ => show 0 * 4096 + 1 * (i 1).val = (i 1).val; omega
theorem place_w (i : S4096x2048.Idx) : ((cfg0.win 1).blk pt).view.emb i = i := by
  funext a; apply Fin.ext
  match a with
  | ⟨0, _⟩ => show 0 * 4096 + 1 * (i 0).val = (i 0).val; omega
  | ⟨1, _⟩ => show 0 * 2048 + 1 * (i 1).val = (i 1).val; omega
theorem place_o (i : S4096x2048.Idx) : ((cfg0.win 4).blk pt).view.emb i = i := by
  funext a; apply Fin.ext
  match a with
  | ⟨0, _⟩ => show 0 * 4096 + 1 * (i 0).val = (i 0).val; omega
  | ⟨1, _⟩ => show 0 * 2048 + 1 * (i 1).val = (i 1).val; omega

/-- An array of one element has one index. -/
theorem one_idx (i j : S1.Idx) : i = j := funext fun a => Fin.ext (by
  obtain rfl : a = 0 := Subsingleton.elim _ _
  have h1 : (i 0).val < 1 := (i 0).isLt
  have h2 : (j 0).val < 1 := (j 0).isLt
  omega)

variable (m : (ℓ : Loc nD τ sig) → Buf (Elt Ideal) ℓ)

abbrev x (c : Dev nD) : FVec Ideal S4096x4096 .fp8e4m3 := m ((c : Thread nD τ).loc main_arg0)
abbrev w (c : Dev nD) : FVec Ideal S4096x2048 .fp8e5m2 := m ((c : Thread nD τ).loc main_arg1)
def oneIdx : S1.Idx := Shape.Idx.first (numel1_S1.symm ▸ Nat.one_pos)
def scales (c : Dev nD) : EReal :=
  HMul.hMul (α := EReal) (β := EReal) (m ((c : Thread nD τ).loc main_arg2) oneIdx) (m ((c : Thread nD τ).loc main_arg3) oneIdx)

theorem in_x (c : Dev nD) : iblk m c 0 pt = x m c := funext fun i => by
  show m ((c : Thread nD τ).loc main_arg0) (((cfg0.win 0).blk pt).view.emb i) = _
  rw [place_x]
theorem in_w (c : Dev nD) : iblk m c 1 pt = w m c := funext fun i => by
  show m ((c : Thread nD τ).loc main_arg1) (((cfg0.win 1).blk pt).view.emb i) = _
  rw [place_w]
theorem in_sx (c : Dev nD) (i : S1.Idx) : iblk m c 2 pt i = m ((c : Thread nD τ).loc main_arg2) oneIdx := by
  show m ((c : Thread nD τ).loc main_arg2) (((cfg0.win 2).blk pt).view.emb i) = _
  exact congrArg _ (one_idx _ _)
theorem in_sw (c : Dev nD) (i : S1.Idx) : iblk m c 3 pt i = m ((c : Thread nD τ).loc main_arg3) oneIdx := by
  show m ((c : Thread nD τ).loc main_arg3) (((cfg0.win 3).blk pt).view.emb i) = _
  exact congrArg _ (one_idx _ _)

/-! ## What the body stores -/

/-- A load of a whole array reads the array. -/
theorem load_whole {sh : Shape} {e : EltTy} {sp : Space} (M : Memref sig .tc sp sh e) (hM : M.IsWhole) (off : Fin sh.rank → ℕ) (h0 : off = fun _ => 0)
    (inb : ∀ a, off a + sh.size a ≤ sh.size a) (v : sh.Idx → Elt Ideal e) :
    M.view.readAt (Elt Ideal) (Rect.unit (s := sh) off sh.size inb).toLoadRect (hM.unread v) = v := by
  funext i
  rw [View.readAt_apply, hM.read_unread]
  refine congrArg v (funext fun a => Fin.ext ?_)
  subst h0
  show 0 + 1 * (i a).val = (i a).val
  omega

/-- The payload at an index. -/
theorem pay_apply (a : Vec Ideal S4096x4096 .fp8e4m3) (b : Vec Ideal S4096x2048 .fp8e5m2) (s t : Elt Ideal .f32) (R : Fin 4096) (n : Fin 2048) :
    k0_pay1 a b s t (ix2 R n)
      = HMul.hMul (α := EReal) (β := EReal) (∑ K : Fin 4096, HMul.hMul (α := EReal) (β := EReal) (a (ix2 R K)) (b (ix2 K n))) (HMul.hMul (α := EReal) (β := EReal) s t) := by
  unfold k0_pay1
  refine congrArg (fun z : EReal => z * (HMul.hMul (α := EReal) (β := EReal) s t)) ?_
  refine (Ideal.matmul_plain_apply none (extf .f32 a bitsLt_fp8e4m3_f32) (extf .f32 b bitsLt_fp8e5m2_f32) _ R n).trans ?_
  rw [ValueIdx.constant_apply, Ideal.ofBits_zero_f32, zero_add]
  rfl

theorem out_apply (c : Dev nD) (arg0 : Memref sig .tc .vmem S4096x4096 .fp8e4m3) (harg0 : arg0.IsWhole) (arg1 : Memref sig .tc .vmem S4096x2048 .fp8e5m2) (harg1 : arg1.IsWhole)
    (arg2 : Memref sig .tc .smem S1 .f32) (harg2 : arg2.IsWhole) (arg3 : Memref sig .tc .smem S1 .f32) (harg3 : arg3.IsWhole)
    (arg4 : Memref sig .tc .vmem S4096x2048 .f32) (harg4 : arg4.IsWhole)
    (x0 : Vec Ideal S4096x4096 .fp8e4m3) (x1 : Vec Ideal S4096x2048 .fp8e5m2) (x2 x3 : Vec Ideal S1 .f32) (y : S4096x2048.Idx) :
    out0_A_4 c arg0 harg0 arg1 harg1 arg2 harg2 arg3 harg3 arg4 harg4 x0 x1 x2 x3 y = k0_pay1 x0 x1 (x2 oneIdx) (x3 oneIdx) y := by
  have e2 := congrFun (load_whole arg2 harg2 ![0] (by funext a; fin_cases a; rfl) inb_S1_S1_0 x2) oneIdx
  have e3 := congrFun (load_whole arg3 harg3 ![0] (by funext a; fin_cases a; rfl) inb_S1_S1_0 x3) oneIdx
  have e0 := load_whole arg0 harg0 ![0, 0] (by funext a; fin_cases a <;> rfl) inb_S4096x4096_S4096x4096_0_0 x0
  have e1 := load_whole arg1 harg1 ![0, 0] (by funext a; fin_cases a <;> rfl) inb_S4096x2048_S4096x2048_0_0 x1
  unfold out0_A_4 kernelRun0_A
  have h := View.read_writes_cons_emb (v := VO0_4) (f := VO0_4.junk) (Val := Elt Ideal)
    (Rect.unit (s := S4096x2048) ![0, 0] S4096x2048.size inb_S4096x2048_S4096x2048_0_0)
    (k0_pay1 (arg0.view.readAt (Elt Ideal) (Rect.unit (s := S4096x4096) ![0, 0] S4096x4096.size inb_S4096x4096_S4096x4096_0_0).toLoadRect (harg0.unread x0))
      (arg1.view.readAt (Elt Ideal) (Rect.unit (s := S4096x2048) ![0, 0] S4096x2048.size inb_S4096x2048_S4096x2048_0_0).toLoadRect (harg1.unread x1))
      (arg2.view.readAt (Elt Ideal) (Rect.unit (s := S1) ![0] S1.size inb_S1_S1_0).toLoadRect (harg2.unread x2) oneIdx)
      (arg3.view.readAt (Elt Ideal) (Rect.unit (s := S1) ![0] S1.size inb_S1_S1_0).toLoadRect (harg3.unread x3) oneIdx)) [] y
  rw [Rect.emb_unit_full] at h
  refine h.trans ?_
  rw [e0, e1, e2, e3]

/-- The result's array, at an index. -/
theorem final_apply (c : Dev nD) (y : S4096x2048.Idx) :
    (dats m 0 c).arrAt 4 cfg0.N y = k0_pay1 (x m c) (w m c) (m ((c : Thread nD τ).loc main_arg2) oneIdx) (m ((c : Thread nD τ).loc main_arg3) oneIdx) y := by
  have b := congrFun (Cert.ReferenceIdeal.Value.blocks4 m c pt (flush0_4 pt)) y
  rw [Cert.ReferenceIdeal.Value.flushed4_A] at b
  have b' : (dats m 0 c).arrAt 4 cfg0.N (((cfg0.win 4).blk pt).view.emb y)
      = out0_A_4 c (ms0_0 pt) (hs0_0 pt) (ms0_1 pt) (hs0_1 pt) (ms0_2 pt) (hs0_2 pt) (ms0_3 pt) (hs0_3 pt) (ms0_4 pt) (hs0_4 pt)
          (iblk m c 0 pt) (iblk m c 1 pt) (iblk m c 2 pt) (iblk m c 3 pt) y := b
  rw [place_o] at b'
  rw [b', out_apply, in_x, in_w]
  exact congrFun (congr (congrArg _ (in_sx m c oneIdx)) (in_sw m c oneIdx)) y

/-- **The reference's result, element by element.** -/
theorem result_apply (c : Dev nD) (R : Fin 4096) (n : Fin 2048) :
    (dats m 0 c).arrAt 4 cfg0.N (ix2 R n) = (∑ K : Fin 4096, x m c (ix2 R K) * w m c (ix2 K n)) * scales m c := by
  rw [final_apply, pay_apply]; rfl

end Cert.Whole

end
-- ==== Proof.Equation.lean ====
/-
# The kernel's result is the reference's

The whole product sums over all 4096 inner indices. Cut into the four devices' runs of 1024, that is the sum of the devices' shares: device `d`
holds columns `1024 d …` of `x` and the same rows of `w`. Row `r` of device `c`'s part of the result is row `1024 c + r` of the whole.
-/
module

public import proofs.«01_k».proof.Proof.Values
public import proofs.«01_k».proof.Proof.Whole
public import proofs.«01_k».proof.Defs

@[expose] public section

noncomputable section

namespace Cert.Equation

open Idealize.ShloMosaic Idealize.ShloMosaic.TcCoe Idealize.ShloMosaic.ValueIdx Idealize.SL.Sem

/-- Inner index `k` of device `d`'s run, among all 4096. -/
def inner (d : Fin 4) (k : Fin 1024) : Fin 4096 := ⟨d.val * 1024 + k.val, by omega⟩

/-- A sum over all inner indices, cut into the four runs. -/
theorem sum_runs (f : Fin 4096 → EReal) : ∑ K : Fin 4096, f K = ∑ d : Fin 4, ∑ k : Fin 1024, f (inner d k) := by
  rw [← Fintype.sum_prod_type' (fun d k => f (inner d k))]
  exact (Fintype.sum_equiv (finProdFinEquiv (m := 4) (n := 1024)) (fun p => f (inner p.1 p.2)) f fun p => congrArg f (Fin.ext (by
    show p.1.val * 1024 + p.2.val = p.2.val + 1024 * p.1.val
    omega))).symm

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

variable (m : KMem) (m' : RMem)

/-- The kernel's arguments are the devices' parts of the reference's. -/
structure Laid : Prop where
  x : ∀ c : Fin 4, Cert.Exchange.xOf m c = Layout.block ⟨2, ![4096, 1024]⟩ ⟨2, ![4096, 4096]⟩ 1 4 c (Cert.Whole.x m' 0)
  w : ∀ c : Fin 4, Cert.Exchange.wOf m c = Layout.block ⟨2, ![1024, 2048]⟩ ⟨2, ![4096, 2048]⟩ 0 4 c (Cert.Whole.w m' 0)
  s : ∀ c : Fin 4, Cert.Exchange.scales m c = Cert.Whole.scales m' 0

variable {m m'}

theorem Laid.x_apply (h : Laid m m') (d : Fin 4) (R : Fin 4096) (k : Fin 1024) :
    Cert.Exchange.xOf m d (ix2 R k) = Cert.Whole.x m' 0 (ix2 R (inner d k)) := by
  rw [h.x d, Layout.block_apply]
  refine congrArg (Cert.Whole.x m' 0) (funext fun a => Fin.ext ?_)
  match a with
  | ⟨0, _⟩ => exact (Layout.idx_cols_val _ d (ix2 R k)).1
  | ⟨1, _⟩ => exact (Layout.idx_cols_val _ d (ix2 R k)).2

theorem Laid.w_apply (h : Laid m m') (d : Fin 4) (k : Fin 1024) (n : Fin 2048) :
    Cert.Exchange.wOf m d (ix2 k n) = Cert.Whole.w m' 0 (ix2 (inner d k) n) := by
  rw [h.w d, Layout.block_apply]
  refine congrArg (Cert.Whole.w m' 0) (funext fun a => Fin.ext ?_)
  match a with
  | ⟨0, _⟩ => exact (Layout.idx_rows_val _ d (ix2 k n)).1
  | ⟨1, _⟩ => exact (Layout.idx_rows_val _ d (ix2 k n)).2

/-- The reference's result. -/
def whole (m' : RMem) : FVec Ideal ⟨2, ![4096, 2048]⟩ .f32 := (Cert.ReferenceIdeal.Gen.dats m' 0 0).arrAt 4 Cert.ReferenceIdeal.cfg0.N

/-- Each device's result at an index is the reference's at that index of its part. -/
theorem Laid.result_apply (h : Laid m m') (c : Fin 4) (r : Fin 1024) (n : Fin 2048) :
    Cert.Exchange.finalA m c (4 : Fin 5) (ix2 r n) = Layout.block ⟨2, ![1024, 2048]⟩ ⟨2, ![4096, 2048]⟩ 0 4 c (whole m') (by decide) (ix2 r n) := by
  have e : Layout.block ⟨2, ![1024, 2048]⟩ ⟨2, ![4096, 2048]⟩ 0 4 c (whole m') (by decide) (ix2 r n)
      = whole m' (ix2 (Cert.Exchange.row c r) n) := by
    rw [Layout.block_apply]
    refine congrArg (whole m') (funext fun a => Fin.ext ?_)
    match a with
    | ⟨0, _⟩ => exact (Layout.idx_rows_val _ c (ix2 r n)).1
    | ⟨1, _⟩ => exact (Layout.idx_rows_val _ c (ix2 r n)).2
  refine (Cert.Exchange.result_apply m c r n).trans (Eq.trans ?_ ((Cert.Whole.result_apply m' 0 (Cert.Exchange.row c r) n).symm.trans e.symm))
  rw [h.s c, sum_runs]
  refine congrArg (· * Cert.Whole.scales m' 0) (Finset.sum_congr rfl fun d _ => Finset.sum_congr rfl fun k _ => ?_)
  rw [h.x_apply d, h.w_apply d]

/-- **Each device's result is its part of the reference's.** -/
theorem Laid.result (h : Laid m m') (c : Fin 4) :
    Cert.Exchange.finalA m c (4 : Fin 5) = Layout.block ⟨2, ![1024, 2048]⟩ ⟨2, ![4096, 2048]⟩ 0 4 c (whole m') :=
  funext fun (i : (⟨2, ![1024, 2048]⟩ : Shape).Idx) =>
    (congrArg (Cert.Exchange.finalA m c (4 : Fin 5)) (eq_ix2 i)).trans ((h.result_apply c (i 0) (i 1)).trans (congrArg _ (eq_ix2 i).symm))

/-! ## The claim -/

theorem algebraic : Cert.algebraic_KernelIdeal_ReferenceIdeal := by
  intro m g m' g' _ hl
  have h : Laid m m' := ⟨fun c => (hl c).1, fun c => (hl c).2.1, fun c => by
    unfold Cert.Exchange.scales Cert.Whole.scales
    rw [(hl c).2.2.1, (hl c).2.2.2]; rfl⟩
  refine ⟨whole m', (θ_run Cert.KernelIdeal.defs _ _).mono (fun r hr c => ?_) (Cert.Exchange.run_main m g),
    (θ_run Cert.ReferenceIdeal.defs _ _).mono (fun r hr => hr 0) (Cert.ReferenceIdeal.Value.run_blocks m' g')⟩
  exact ⟨(hr.1 c 4).trans (h.result c), (hr.1 c 0).trans (Cert.Exchange.final_x m c), (hr.1 c 1).trans (Cert.Exchange.final_w m c),
    (hr.1 c 2).trans (Cert.Exchange.final_sx m c), (hr.1 c 3).trans (Cert.Exchange.final_sw m c)⟩

end Cert.Equation

end
-- ==== Proof.lean ====
/-
# The claims proved

The two frames of the kernel are one run, proved for any float values: the kernel as printed and its idealization have the same text. The reference's
frame is its own run's. No operation was rewritten between the kernel and its idealization. The value claim is `Equation`.
-/
module

public import proofs.«01_k».proof.Defs
public import proofs.«01_k».proof.Proof.Gen.Kernel
public import proofs.«01_k».proof.Proof.Gen.ReferenceIdeal.Frame
public import proofs.«01_k».proof.Proof.Equation

@[expose] public section

noncomputable section

namespace Cert.Proof

open Idealize.ShloMosaic Idealize.SL.Sem Cert.Kernel

/-- The two programs' bodies, one by one, are the same term. -/
theorem same_bodies : Cert.Kernel.defs₀ (F := Bits) = Cert.KernelIdeal.defs₀ (F := Bits) := by
  unfold Cert.Kernel.defs₀ Cert.KernelIdeal.defs₀
  refine congrArg Defs.onTc (funext fun l => funext fun a => ?_)
  match l with
  | ⟨0, _⟩ => rfl

theorem same_defs : Cert.Kernel.defs (F := Bits) = Cert.KernelIdeal.defs (F := Bits) :=
  congrArg (Pipeline.defs Cert.Kernel.pcfgs) same_bodies

/-- The run at words of bits, read as the printed kernel's. -/
theorem frame_kernel : Cert.quiescent_Kernel := fun m ρ _ => by
  rw [same_defs]
  exact Cert.Exchange.run_frame (F := Bits) m ρ

theorem claim : Cert.Claim := ⟨Cert.Kernel.Gen.facts, Cert.KernelIdeal.Gen.facts, Cert.ReferenceIdeal.Gen.facts,
  frame_kernel,
  fun m ρ _ => Cert.Exchange.run_frame (F := Ideal) m ρ,
  fun m ρ _ => Cert.ReferenceIdeal.Gen.frame m ρ,
  trivial,
  Cert.Equation.algebraic⟩

end Cert.Proof

end
